-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_top [hPre_distinct_top : Cert.Pre_distinct_top.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).1 = (fun _ => 1#1)
    ∧ (Cert.Pre_distinct_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_top [hPre_distinct_top : Cert.Pre_distinct_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).1 = (fun _ => 1#1)
    ∧ (Cert.Pre_distinct_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_KernelIdeal_pre_distinct_top [hKernelIdeal : Cert.KernelIdeal.Facts] [hPre_distinct_top : Cert.Pre_distinct_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_top m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def quiescent_ReferenceIdeal_pre_distinct_top [hReferenceIdeal : Cert.ReferenceIdeal.Facts] [hPre_distinct_top : Cert.Pre_distinct_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def preserves_Kernel_KernelIdeal : Prop :=
  IdealRules.named_const.Statement Cert.KernelIdeal.κ "scale" .f32 0x3E3504F3#32 (((Real.sqrt 32)⁻¹ : ℝ) : EReal)
  ∧ IdealRules.named_const.Statement Cert.KernelIdeal.κ "mask" .f32 0xF149F2CA#32 ⊥

def algebraic_KernelIdeal_ReferenceIdeal_pre_distinct_top [hKernelIdeal : Cert.KernelIdeal.Facts] [hReferenceIdeal : Cert.ReferenceIdeal.Facts] [hPre_distinct_top : Cert.Pre_distinct_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_distinct_top : Cert.Pre_distinct_top.Facts),
    quiescent_Kernel (hKernel := hKernel)
    ∧ quiescent_KernelIdeal (hKernelIdeal := hKernelIdeal)
    ∧ quiescent_KernelIdeal_pre_distinct_top (hKernelIdeal := hKernelIdeal) (hPre_distinct_top := hPre_distinct_top)
    ∧ quiescent_ReferenceIdeal (hReferenceIdeal := hReferenceIdeal)
    ∧ quiescent_ReferenceIdeal_pre_distinct_top (hReferenceIdeal := hReferenceIdeal) (hPre_distinct_top := hPre_distinct_top)
    ∧ preserves_Kernel_KernelIdeal
    ∧ algebraic_KernelIdeal_ReferenceIdeal_pre_distinct_top (hKernelIdeal := hKernelIdeal) (hReferenceIdeal := hReferenceIdeal) (hPre_distinct_top := hPre_distinct_top)
-- ==== Pre_distinct_top.lean ====
abbrev S64x64x64x64 : Shape := ⟨4, ![64, 64, 64, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x128 : Shape := ⟨2, ![32, 128]⟩
abbrev S128 : Shape := ⟨1, ![128]⟩
abbrev S128x32 : Shape := ⟨2, ![128, 32]⟩
abbrev S2048x32 : Shape := ⟨2, ![2048, 32]⟩
abbrev S32x1 : Shape := ⟨2, ![32, 1]⟩
abbrev S1 : Shape := ⟨1, ![1]⟩
abbrev S64x64x64x32 : Shape := ⟨4, ![64, 64, 64, 32]⟩
abbrev S1x1x1x32 : Shape := ⟨4, ![1, 1, 1, 32]⟩
abbrev S4096x64x32 : Shape := ⟨3, ![4096, 64, 32]⟩
abbrev S1x64x32 : Shape := ⟨3, ![1, 64, 32]⟩
abbrev S4096x64x64 : Shape := ⟨3, ![4096, 64, 64]⟩
abbrev S_ : Shape := ⟨0, ![]⟩
abbrev S4096x64x8 : Shape := ⟨3, ![4096, 64, 8]⟩
abbrev S4096x64x1 : Shape := ⟨3, ![4096, 64, 1]⟩
abbrev S4096x64 : Shape := ⟨2, ![4096, 64]⟩
abbrev S1x64x64 : Shape := ⟨3, ![1, 64, 64]⟩
abbrev S64x1 : Shape := ⟨2, ![64, 1]⟩
abbrev S64x2 : Shape := ⟨2, ![64, 2]⟩
abbrev S1x1x32 : Shape := ⟨3, ![1, 1, 32]⟩
abbrev S4096x64x7 : Shape := ⟨3, ![4096, 64, 7]⟩

class Facts : Prop where
  bcast_S32_S1x1x1x32_3 : S32.BroadcastsInDim S1x1x1x32 (![3] : Fin 1 → Fin S1x1x1x32.rank)
  bcast_S1x1x1x32_S64x64x64x32_0_1_2_3 : S1x1x1x32.BroadcastsInDim S64x64x64x32 (![0, 1, 2, 3] : Fin 4 → Fin S64x64x64x32.rank)
  transposes_S64x64x64x32_S64x64x64x32_0_2_1_3 : S64x64x64x32.Transposes [0, 2, 1, 3] S64x64x64x32
  shapeCasts_S64x64x64x32_S4096x64x32 : S64x64x64x32.ShapeCasts S4096x64x32
  bcast_S64x32_S1x64x32_1_2 : S64x32.BroadcastsInDim S1x64x32 (![1, 2] : Fin 2 → Fin S1x64x32.rank)
  bcast_S1x64x32_S4096x64x32_0_1_2 : S1x64x32.BroadcastsInDim S4096x64x32 (![0, 1, 2] : Fin 3 → Fin S4096x64x32.rank)
  bcast_S_S4096x64x64 : S_.BroadcastsInDim S4096x64x64 (![] : Fin 0 → Fin S4096x64x64.rank)
  sliceFits_S4096x64x64_S4096x64x8 : S4096x64x64.Slices (fun _ => 0) S4096x64x8
  slices_S4096x64x8_S4096x64x1_0_0_7 : S4096x64x8.Slices ![0, 0, 7] S4096x64x1
  bcast_S4096x64x1_S4096x64x64_0_1_2 : S4096x64x1.BroadcastsInDim S4096x64x64 (![0, 1, 2] : Fin 3 → Fin S4096x64x64.rank)
  reducesTo_S4096x64x64_S4096x64_d2 : S4096x64x64.ReducesTo [2] S4096x64
  h_S_ : 0 < S_.numel
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S4096x64x64_0_1_2 : S1x64x64.BroadcastsInDim S4096x64x64 (![0, 1, 2] : Fin 3 → Fin S4096x64x64.rank)
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S4096x64x1_S4096x64x32_0_1_2 : S4096x64x1.BroadcastsInDim S4096x64x32 (![0, 1, 2] : Fin 3 → Fin S4096x64x32.rank)
  bcast_S32_S1x1x32_2 : S32.BroadcastsInDim S1x1x32 (![2] : Fin 1 → Fin S1x1x32.rank)
  bcast_S1x1x32_S4096x64x32_0_1_2 : S1x1x32.BroadcastsInDim S4096x64x32 (![0, 1, 2] : Fin 3 → Fin S4096x64x32.rank)
  bcast_S_S4096x64x32 : S_.BroadcastsInDim S4096x64x32 (![] : Fin 0 → Fin S4096x64x32.rank)
  reducesTo_S4096x64x32_S4096x64_d2 : S4096x64x32.ReducesTo [2] S4096x64
  bcast_S_S4096x64x1 : S_.BroadcastsInDim S4096x64x1 (![] : Fin 0 → Fin S4096x64x1.rank)
  slices_S4096x64x8_S4096x64x7_0_0_0 : S4096x64x8.Slices ![0, 0, 0] S4096x64x7
  slices_S4096x64x8_S4096x64x7_0_0_1 : S4096x64x8.Slices ![0, 0, 1] S4096x64x7
  dot_S64x64x64x64_S64x32_S64x64x64x32_3_0_012_1_n_n_wf : DotDims.WF S64x64x64x64 S64x32 S64x64x64x32 [3] [0] [0, 1, 2] [1] [] []
  dot_S4096x64x32_S32x32_S4096x64x32_2_0_01_1_n_n_wf : DotDims.WF S4096x64x32 S32x32 S4096x64x32 [2] [0] [0, 1] [1] [] []
  dot_S4096x64x32_S4096x64x32_S4096x64x64_2_2_1_1_0_0_wf : DotDims.WF S4096x64x32 S4096x64x32 S4096x64x64 [2] [2] [1] [1] [0] [0]
  gather_S4096x64x64_S64x2_S4096x64_0_12_n_n_12_1_409611_wf : GatherDims.WF S4096x64x64 S64x2 S4096x64 [0] [1, 2] [] [1, 2] [] 1 ![4096, 1, 1]
  dot_S4096x64x64_S4096x64x32_S4096x64x32_2_1_1_2_0_0_wf : DotDims.WF S4096x64x64 S4096x64x32 S4096x64x32 [2] [1] [1] [2] [0] [0]

variable [Facts]

def dot_S64x64x64x64_S64x32_S64x64x64x32_3_0_012_1_n_n : DotDims S64x64x64x64 S64x32 S64x64x64x32 where
  lhsContracting := [3]
  rhsContracting := [0]
  lhsNonContracting := [0, 1, 2]
  rhsNonContracting := [1]
  lhsBatch := []
  rhsBatch := []
  wf := dot_S64x64x64x64_S64x32_S64x64x64x32_3_0_012_1_n_n_wf
def dot_S4096x64x32_S32x32_S4096x64x32_2_0_01_1_n_n : DotDims S4096x64x32 S32x32 S4096x64x32 where
  lhsContracting := [2]
  rhsContracting := [0]
  lhsNonContracting := [0, 1]
  rhsNonContracting := [1]
  lhsBatch := []
  rhsBatch := []
  wf := dot_S4096x64x32_S32x32_S4096x64x32_2_0_01_1_n_n_wf
def dot_S4096x64x32_S4096x64x32_S4096x64x64_2_2_1_1_0_0 : DotDims S4096x64x32 S4096x64x32 S4096x64x64 where
  lhsContracting := [2]
  rhsContracting := [2]
  lhsNonContracting := [1]
  rhsNonContracting := [1]
  lhsBatch := [0]
  rhsBatch := [0]
  wf := dot_S4096x64x32_S4096x64x32_S4096x64x64_2_2_1_1_0_0_wf
def gather_S4096x64x64_S64x2_S4096x64_0_12_n_n_12_1_409611 : GatherDims S4096x64x64 S64x2 S4096x64 where
  offsetDims := [0]
  collapsedSliceDims := [1, 2]
  operandBatchingDims := []
  startIndicesBatchingDims := []
  startIndexMap := [1, 2]
  indexVectorDim := 1
  sliceSizes := ![4096, 1, 1]
  wf := gather_S4096x64x64_S64x2_S4096x64_0_12_n_n_12_1_409611_wf
def dot_S4096x64x64_S4096x64x32_S4096x64x32_2_1_1_2_0_0 : DotDims S4096x64x64 S4096x64x32 S4096x64x32 where
  lhsContracting := [2]
  rhsContracting := [1]
  lhsNonContracting := [1]
  rhsNonContracting := [2]
  lhsBatch := [0]
  rhsBatch := [0]
  wf := dot_S4096x64x64_S4096x64x32_S4096x64x32_2_1_1_2_0_0_wf
def fn_where {F : FTy → Type} [FloatOps F] (arg0 : IVec S4096x64x64 1) (arg1 : FVec F S4096x64x64 .f32) (arg2 : FVec F S_ .f32) : FVec F S4096x64x64 .f32 :=
  let v0 : FVec F S_ .f32 := id arg2
  let v1 : FVec F S4096x64x64 .f32 := broadcastInDim S4096x64x64 ![] bcast_S_S4096x64x64 v0
  let v2 : FVec F S4096x64x64 .f32 := select arg0 arg1 v1
  v2

def fn_diagonal {F : FTy → Type} [FloatOps F] (arg0 : FVec F S4096x64x64 .f32) : FVec F S4096x64 .f32 :=
  let v0 : IVec S64 32 := iotaInDim S64 32 0
  let v1 : IVec S64 32 := iotaInDim S64 32 0
  let c : IVec S_ 32 := constantI S_ 32 0#32
  let v2 : IVec S64 32 := broadcastInDim S64 ![] bcast_S_S64 c
  let v3 : IVec S64 1 := cmpi .slt v0 v2
  let c_0 : IVec S_ 32 := constantI S_ 32 64#32
  let v4 : IVec S64 32 := broadcastInDim S64 ![] bcast_S_S64 c_0
  let v5 : IVec S64 32 := addi v0 v4
  let v6 : IVec S64 32 := select v3 v5 v0
  let c_1 : IVec S_ 32 := constantI S_ 32 0#32
  let v7 : IVec S64 32 := broadcastInDim S64 ![] bcast_S_S64 c_1
  let v8 : IVec S64 1 := cmpi .slt v1 v7
  let c_2 : IVec S_ 32 := constantI S_ 32 64#32
  let v9 : IVec S64 32 := broadcastInDim S64 ![] bcast_S_S64 c_2
  let v10 : IVec S64 32 := addi v1 v9
  let v11 : IVec S64 32 := select v8 v10 v1
  let v12 : IVec S64x1 32 := broadcastInDim S64x1 ![0] bcast_S64_S64x1_0 v6
  let v13 : IVec S64x1 32 := broadcastInDim S64x1 ![0] bcast_S64_S64x1_0 v11
  let v14 : IVec S64x2 32 := (fun a b => concatenate S64x2 1 [⟨S64x1, a⟩, ⟨S64x1, b⟩] concatenates_S64x1_S64x1_S64x2_d1) v12 v13
  let v15 : FVec F S4096x64 .f32 := (fun x i => Host.gather gather_S4096x64x64_S64x2_S4096x64_0_12_n_n_12_1_409611 x i) arg0 v14
  v15

def fn_relu {F : FTy → Type} [FloatOps F] (arg0 : FVec F S4096x64x32 .f32) : FVec F S4096x64x32 .f32 :=
  let cst : FVec F S_ .f32 := constant S_ .f32 0x00000000#32
  let v0 : FVec F S4096x64x32 .f32 := broadcastInDim S4096x64x32 ![] bcast_S_S4096x64x32 cst
  let v1 : FVec F S4096x64x32 .f32 := maximumf arg0 v0
  v1

def fn_where_0 {F : FTy → Type} [FloatOps F] (arg0 : IVec S_ 1) (arg1 : FVec F S4096x64x1 .f32) (arg2 : FVec F S_ .f32) : FVec F S4096x64x1 .f32 :=
  let v0 : FVec F S_ .f32 := id arg2
  let v1 : FVec F S4096x64x1 .f32 := broadcastInDim S4096x64x1 ![] bcast_S_S4096x64x1 v0
  let v2 : FVec F S4096x64x1 .f32 := (fun p a b => select (broadcastInDim S4096x64x1 ![] bcast_S_S4096x64x1 p) a b) arg0 arg1 v1
  v2

def fn_var {F : FTy → Type} [FloatOps F] (arg0 : FVec F S4096x64x32 .f32) (arg1 : IVec S_ 32) : FVec F S4096x64x1 .f32 :=
  let cst : FVec F S_ .f32 := constant S_ .f32 0x00000000#32
  let v0 : FVec F S4096x64 .f32 := (fun x v => Host.reduceAdd x v reducesTo_S4096x64x32_S4096x64_d2 h_S_) arg0 cst
  let v1 : FVec F S4096x64x1 .f32 := broadcastInDim S4096x64x1 ![0, 1] bcast_S4096x64_S4096x64x1_0_1 v0
  let cst_0 : FVec F S_ .f32 := constant S_ .f32 0x42000000#32
  let v2 : FVec F S4096x64x1 .f32 := broadcastInDim S4096x64x1 ![] bcast_S_S4096x64x1 cst_0
  let v3 : FVec F S4096x64x1 .f32 := Host.divf v1 v2
  let v4 : FVec F S4096x64x32 .f32 := broadcastInDim S4096x64x32 ![0, 1, 2] bcast_S4096x64x1_S4096x64x32_0_1_2 v3
  let v5 : FVec F S4096x64x32 .f32 := subf arg0 v4
  let v6 : FVec F S4096x64x32 .f32 := mulf v5 v5
  let v7 : FVec F S_ .f32 := sitofp .f32 arg1
  let cst_1 : FVec F S_ .f32 := constant S_ .f32 0x42000000#32
  let v8 : FVec F S_ .f32 := subf cst_1 v7
  let cst_2 : FVec F S_ .f32 := constant S_ .f32 0x00000000#32
  let v9 : FVec F S4096x64 .f32 := (fun x v => Host.reduceAdd x v reducesTo_S4096x64x32_S4096x64_d2 h_S_) v6 cst_2
  let v10 : FVec F S4096x64x1 .f32 := broadcastInDim S4096x64x1 ![0, 1] bcast_S4096x64_S4096x64x1_0_1 v9
  let v11 : FVec F S4096x64x1 .f32 := broadcastInDim S4096x64x1 ![] bcast_S_S4096x64x1 v8
  let v12 : FVec F S4096x64x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S4096x64x1 .f32 := fn_where_0 (F := F) v13 v12 cst_4
  v14

def fn_part4 {F : FTy → Type} [FloatOps F] (main_arg13 : FVec F S64x32 .f32) (main_arg14 : FVec F S32x32 .f32) (main_arg15 : FVec F S32x32 .f32) (main_values : FVec F S4096x64x8 .f32) (main_v77 : FVec F S4096x64x32 .f32) (main_v79 : FVec F S4096x64x32 .f32) : IVec S4096x64x7 1 × IVec S4096x64x7 1 :=
  let main_v80 : FVec F S4096x64x32 .f32 := addf main_v77 main_v79
  let main_v81 : FVec F S1x64x32 .f32 := broadcastInDim S1x64x32 ![1, 2] bcast_S64x32_S1x64x32_1_2 main_arg13
  let main_v82 : FVec F S4096x64x32 .f32 := broadcastInDim S4096x64x32 ![0, 1, 2] bcast_S1x64x32_S4096x64x32_0_1_2 main_v81
  let main_v83 : FVec F S4096x64x32 .f32 := addf main_v80 main_v82
  let main_v84 : FVec F S4096x64x32 .f32 := (fun l r => Host.dotGeneral dot_S4096x64x32_S32x32_S4096x64x32_2_0_01_1_n_n none l r) main_v83 main_arg14
  let main_v85 : FVec F S4096x64x32 .f32 := (fun l r => Host.dotGeneral dot_S4096x64x32_S32x32_S4096x64x32_2_0_01_1_n_n none l r) main_v83 main_arg15
  let main_v86 : FVec F S4096x64x64 .f32 := (fun l r => Host.dotGeneral dot_S4096x64x32_S4096x64x32_S4096x64x64_2_2_1_1_0_0 none l r) main_v84 main_v85
  let main_cst_12 : FVec F S_ .f32 := constant S_ .f32 0x42000000#32
  let main_v87 : FVec F S_ .f32 := Host.sqrt main_cst_12
  let main_v88 : FVec F S4096x64x64 .f32 := broadcastInDim S4096x64x64 ![] bcast_S_S4096x64x64 main_v87
  let main_v89 : FVec F S4096x64x64 .f32 := Host.divf main_v86 main_v88
  let main_values_13 : FVec F S4096x64x8 .f32 := (fun x => (Host.topK S4096x64x8 2 (FloatOps.cmpfTotal .gt) x sliceFits_S4096x64x64_S4096x64x8).1) main_v89
  let main_indices_14 : IVec S4096x64x8 32 := (fun x => (Host.topK S4096x64x8 2 (FloatOps.cmpfTotal .gt) x sliceFits_S4096x64x64_S4096x64x8).2) main_v89
  let main_v90 : FVec F S4096x64x7 .f32 := (extractStridedSlice S4096x64x7 ![0, 0, 0] · slices_S4096x64x8_S4096x64x7_0_0_0) main_values
  let main_v91 : FVec F S4096x64x7 .f32 := (extractStridedSlice S4096x64x7 ![0, 0, 1] · slices_S4096x64x8_S4096x64x7_0_0_1) main_values
  let main_v92 : IVec S4096x64x7 1 := cmpf .ogt main_v90 main_v91
  let main_v93 : FVec F S4096x64x7 .f32 := (extractStridedSlice S4096x64x7 ![0, 0, 0] · slices_S4096x64x8_S4096x64x7_0_0_0) main_values_13
  let main_v94 : FVec F S4096x64x7 .f32 := (extractStridedSlice S4096x64x7 ![0, 0, 1] · slices_S4096x64x8_S4096x64x7_0_0_1) main_values_13
  let main_v95 : IVec S4096x64x7 1 := cmpf .ogt main_v93 main_v94
  (main_v92, main_v95)

def fn_part3 {F : FTy → Type} [FloatOps F] (main_arg11 : FVec F S32 .f32) (main_arg12 : FVec F S32 .f32) (main_arg13 : FVec F S64x32 .f32) (main_arg14 : FVec F S32x32 .f32) (main_arg15 : FVec F S32x32 .f32) (main_v5 : FVec F S4096x64x32 .f32) (main_values : FVec F S4096x64x8 .f32) (main_v57 : FVec F S4096x64x32 .f32) (main_v59 : FVec F S4096x64x32 .f32) : IVec S4096x64x7 1 × IVec S4096x64x7 1 :=
  let main_v60 : FVec F S4096x64x32 .f32 := addf main_v57 main_v59
  let main_v61 : FVec F S4096x64x32 .f32 := fn_relu (F := F) main_v60
  let main_v62 : FVec F S4096x64x32 .f32 := addf main_v5 main_v61
  let main_cst_8 : FVec F S_ .f32 := constant S_ .f32 0x00000000#32
  let main_v63 : FVec F S4096x64 .f32 := (fun x v => Host.reduceAdd x v reducesTo_S4096x64x32_S4096x64_d2 h_S_) main_v62 main_cst_8
  let main_v64 : FVec F S4096x64x1 .f32 := broadcastInDim S4096x64x1 ![0, 1] bcast_S4096x64_S4096x64x1_0_1 main_v63
  let main_cst_9 : FVec F S_ .f32 := constant S_ .f32 0x42000000#32
  let main_v65 : FVec F S4096x64x1 .f32 := broadcastInDim S4096x64x1 ![] bcast_S_S4096x64x1 main_cst_9
  let main_v66 : FVec F S4096x64x1 .f32 := Host.divf main_v64 main_v65
  let main_c_10 : IVec S_ 32 := constantI S_ 32 0#32
  let main_v67 : FVec F S4096x64x1 .f32 := fn_var (F := F) main_v62 main_c_10
  let main_v68 : FVec F S4096x64x32 .f32 := broadcastInDim S4096x64x32 ![0, 1, 2] bcast_S4096x64x1_S4096x64x32_0_1_2 main_v66
  let main_v69 : FVec F S4096x64x32 .f32 := subf main_v62 main_v68
  let main_cst_11 : FVec F S_ .f32 := constant S_ .f32 0x3727C5AC#32
  let main_v70 : FVec F S4096x64x1 .f32 := broadcastInDim S4096x64x1 ![] bcast_S_S4096x64x1 main_cst_11
  let main_v71 : FVec F S4096x64x1 .f32 := addf main_v67 main_v70
  let main_v72 : FVec F S4096x64x1 .f32 := Host.sqrt main_v71
  let main_v73 : FVec F S4096x64x32 .f32 := broadcastInDim S4096x64x32 ![0, 1, 2] bcast_S4096x64x1_S4096x64x32_0_1_2 main_v72
  let main_v74 : FVec F S4096x64x32 .f32 := Host.divf main_v69 main_v73
  let main_v75 : FVec F S1x1x32 .f32 := broadcastInDim S1x1x32 ![2] bcast_S32_S1x1x32_2 main_arg11
  let main_v76 : FVec F S4096x64x32 .f32 := broadcastInDim S4096x64x32 ![0, 1, 2] bcast_S1x1x32_S4096x64x32_0_1_2 main_v75
  let main_v77 : FVec F S4096x64x32 .f32 := mulf main_v74 main_v76
  let main_v78 : FVec F S1x1x32 .f32 := broadcastInDim S1x1x32 ![2] bcast_S32_S1x1x32_2 main_arg12
  let main_v79 : FVec F S4096x64x32 .f32 := broadcastInDim S4096x64x32 ![0, 1, 2] bcast_S1x1x32_S4096x64x32_0_1_2 main_v78
  fn_part4 (F := F) main_arg13 main_arg14 main_arg15 main_values main_v77 main_v79

def fn_part2 {F : FTy → Type} [FloatOps F] (main_arg8 : FVec F S32x32 .f32) (main_arg9 : FVec F S32x32 .f32) (main_arg10 : FVec F S32 .f32) (main_arg11 : FVec F S32 .f32) (main_arg12 : FVec F S32 .f32) (main_arg13 : FVec F S64x32 .f32) (main_arg14 : FVec F S32x32 .f32) (main_arg15 : FVec F S32x32 .f32) (main_v5 : FVec F S4096x64x32 .f32) (main_values : FVec F S4096x64x8 .f32) (main_v34 : FVec F S4096x64x64 .f32) (main_v37 : FVec F S4096x64x64 .f32) : IVec S4096x64x7 1 × IVec S4096x64x7 1 :=
  let main_v38 : FVec F S4096x64x64 .f32 := Host.divf main_v34 main_v37
  let main_v39 : IVec S64x64 32 := iotaInDim S64x64 32 0
  let main_v40 : IVec S64x64 32 := iotaInDim S64x64 32 1
  let main_c : IVec S_ 32 := constantI S_ 32 0#32
  let main_v41 : IVec S64x64 32 := broadcastInDim S64x64 ![] bcast_S_S64x64 main_c
  let main_v42 : IVec S64x64 32 := addi main_v39 main_v41
  let main_v43 : IVec S64x64 1 := cmpi .eq main_v42 main_v40
  let main_v44 : FVec F S64x64 .f32 := uitofp .f32 main_v43
  let main_cst_7 : FVec F S_ .f32 := constant S_ .f32 0x3F800000#32
  let main_v45 : FVec F S64x64 .f32 := broadcastInDim S64x64 ![] bcast_S_S64x64 main_cst_7
  let main_v46 : FVec F S64x64 .f32 := subf main_v45 main_v44
  let main_v47 : FVec F S1x64x64 .f32 := broadcastInDim S1x64x64 ![1, 2] bcast_S64x64_S1x64x64_1_2 main_v46
  let main_v48 : FVec F S4096x64x64 .f32 := broadcastInDim S4096x64x64 ![0, 1, 2] bcast_S1x64x64_S4096x64x64_0_1_2 main_v47
  let main_v49 : FVec F S4096x64x64 .f32 := mulf main_v38 main_v48
  let main_v50 : FVec F S4096x64 .f32 := fn_diagonal (F := F) main_v38
  let main_v51 : FVec F S4096x64x1 .f32 := broadcastInDim S4096x64x1 ![0, 1] bcast_S4096x64_S4096x64x1_0_1 main_v50
  let main_v52 : FVec F S4096x64x32 .f32 := (fun l r => Host.dotGeneral dot_S4096x64x32_S32x32_S4096x64x32_2_0_01_1_n_n none l r) main_v5 main_arg8
  let main_v53 : FVec F S4096x64x32 .f32 := (fun l r => Host.dotGeneral dot_S4096x64x64_S4096x64x32_S4096x64x32_2_1_1_2_0_0 none l r) main_v49 main_v52
  let main_v54 : FVec F S4096x64x32 .f32 := (fun l r => Host.dotGeneral dot_S4096x64x32_S32x32_S4096x64x32_2_0_01_1_n_n none l r) main_v5 main_arg9
  let main_v55 : FVec F S4096x64x32 .f32 := broadcastInDim S4096x64x32 ![0, 1, 2] bcast_S4096x64x1_S4096x64x32_0_1_2 main_v51
  let main_v56 : FVec F S4096x64x32 .f32 := mulf main_v55 main_v54
  let main_v57 : FVec F S4096x64x32 .f32 := addf main_v53 main_v56
  let main_v58 : FVec F S1x1x32 .f32 := broadcastInDim S1x1x32 ![2] bcast_S32_S1x1x32_2 main_arg10
  let main_v59 : FVec F S4096x64x32 .f32 := broadcastInDim S4096x64x32 ![0, 1, 2] bcast_S1x1x32_S4096x64x32_0_1_2 main_v58
  fn_part3 (F := F) main_arg11 main_arg12 main_arg13 main_arg14 main_arg15 main_v5 main_values main_v57 main_v59

def fn_part1 {F : FTy → Type} [FloatOps F] (main_arg8 : FVec F S32x32 .f32) (main_arg9 : FVec F S32x32 .f32) (main_arg10 : FVec F S32 .f32) (main_arg11 : FVec F S32 .f32) (main_arg12 : FVec F S32 .f32) (main_arg13 : FVec F S64x32 .f32) (main_arg14 : FVec F S32x32 .f32) (main_arg15 : FVec F S32x32 .f32) (main_v5 : FVec F S4096x64x32 .f32) (main_values : FVec F S4096x64x8 .f32) (main_v20 : FVec F S4096x64x64 .f32) : IVec S4096x64x7 1 × IVec S4096x64x7 1 :=
  let main_cst_0 : FVec F S_ .f32 := constant S_ .f32 0x42000000#32
  let main_v21 : FVec F S_ .f32 := Host.sqrt main_cst_0
  let main_v22 : FVec F S4096x64x64 .f32 := broadcastInDim S4096x64x64 ![] bcast_S_S4096x64x64 main_v21
  let main_v23 : FVec F S4096x64x64 .f32 := Host.divf main_v20 main_v22
  let main_values_1 : FVec F S4096x64x8 .f32 := (fun x => (Host.topK S4096x64x8 2 (FloatOps.cmpfTotal .gt) x sliceFits_S4096x64x64_S4096x64x8).1) main_v23
  let main_indices_2 : IVec S4096x64x8 32 := (fun x => (Host.topK S4096x64x8 2 (FloatOps.cmpfTotal .gt) x sliceFits_S4096x64x64_S4096x64x8).2) main_v23
  let main_v24 : FVec F S4096x64x1 .f32 := (extractStridedSlice S4096x64x1 ![0, 0, 7] · slices_S4096x64x8_S4096x64x1_0_0_7) main_values_1
  let main_v25 : FVec F S4096x64x64 .f32 := broadcastInDim S4096x64x64 ![0, 1, 2] bcast_S4096x64x1_S4096x64x64_0_1_2 main_v24
  let main_v26 : IVec S4096x64x64 1 := cmpf .oge main_v23 main_v25
  let main_cst_3 : FVec F S_ .f32 := constant S_ .f32 0xFF800000#32
  let main_v27 : FVec F S4096x64x64 .f32 := fn_where (F := F) main_v26 main_v23 main_cst_3
  let main_cst_4 : FVec F S_ .f32 := constant S_ .f32 0xFF800000#32
  let main_v28 : FVec F S4096x64 .f32 := (fun x v => Host.reduce FloatOps.maximumf x v reducesTo_S4096x64x64_S4096x64_d2 h_S_) main_v27 main_cst_4
  let main_cst_5 : FVec F S_ .f32 := constant S_ .f32 0xFF800000#32
  let main_v29 : FVec F S4096x64 .f32 := broadcastInDim S4096x64 ![] bcast_S_S4096x64 main_cst_5
  let main_v30 : FVec F S4096x64 .f32 := maximumf main_v29 main_v28
  let main_v31 : FVec F S4096x64x1 .f32 := broadcastInDim S4096x64x1 ![0, 1] bcast_S4096x64_S4096x64x1_0_1 main_v30
  let main_v32 : FVec F S4096x64x64 .f32 := broadcastInDim S4096x64x64 ![0, 1, 2] bcast_S4096x64x1_S4096x64x64_0_1_2 main_v31
  let main_v33 : FVec F S4096x64x64 .f32 := subf main_v27 main_v32
  let main_v34 : FVec F S4096x64x64 .f32 := Host.exp main_v33
  let main_cst_6 : FVec F S_ .f32 := constant S_ .f32 0x00000000#32
  let main_v35 : FVec F S4096x64 .f32 := (fun x v => Host.reduceAdd x v reducesTo_S4096x64x64_S4096x64_d2 h_S_) main_v34 main_cst_6
  let main_v36 : FVec F S4096x64x1 .f32 := broadcastInDim S4096x64x1 ![0, 1] bcast_S4096x64_S4096x64x1_0_1 main_v35
  let main_v37 : FVec F S4096x64x64 .f32 := broadcastInDim S4096x64x64 ![0, 1, 2] bcast_S4096x64x1_S4096x64x64_0_1_2 main_v36
  fn_part2 (F := F) main_arg8 main_arg9 main_arg10 main_arg11 main_arg12 main_arg13 main_arg14 main_arg15 main_v5 main_values main_v34 main_v37

def fn {F : FTy → Type} [FloatOps F] (main_arg0 : FVec F S64x64x64x64 .f32) (main_arg1 : FVec F S64x64 .f32) (main_arg2 : FVec F S64 .f32) (main_arg3 : FVec F S64x32 .f32) (main_arg4 : FVec F S32 .f32) (main_arg5 : FVec F S64x32 .f32) (main_arg6 : FVec F S32x32 .f32) (main_arg7 : FVec F S32x32 .f32) (main_arg8 : FVec F S32x32 .f32) (main_arg9 : FVec F S32x32 .f32) (main_arg10 : FVec F S32 .f32) (main_arg11 : FVec F S32 .f32) (main_arg12 : FVec F S32 .f32) (main_arg13 : FVec F S64x32 .f32) (main_arg14 : FVec F S32x32 .f32) (main_arg15 : FVec F S32x32 .f32) (main_arg16 : FVec F S32x32 .f32) (main_arg17 : FVec F S32x32 .f32) (main_arg18 : FVec F S32 .f32) (main_arg19 : FVec F S32 .f32) (main_arg20 : FVec F S32 .f32) (main_arg21 : FVec F S32x128 .f32) (main_arg22 : FVec F S128 .f32) (main_arg23 : FVec F S128x32 .f32) (main_arg24 : FVec F S32 .f32) (main_arg25 : FVec F S32 .f32) (main_arg26 : FVec F S32 .f32) (main_arg27 : FVec F S2048x32 .f32) (main_arg28 : FVec F S32 .f32) (main_arg29 : FVec F S32x1 .f32) (main_arg30 : FVec F S1 .f32) : IVec S4096x64x7 1 × IVec S4096x64x7 1 :=
  let main_v0 : FVec F S64x64x64x32 .f32 := (fun l r => Host.dotGeneral dot_S64x64x64x64_S64x32_S64x64x64x32_3_0_012_1_n_n none l r) main_arg0 main_arg3
  let main_v1 : FVec F S1x1x1x32 .f32 := broadcastInDim S1x1x1x32 ![3] bcast_S32_S1x1x1x32_3 main_arg4
  let main_v2 : FVec F S64x64x64x32 .f32 := broadcastInDim S64x64x64x32 ![0, 1, 2, 3] bcast_S1x1x1x32_S64x64x64x32_0_1_2_3 main_v1
  let main_v3 : FVec F S64x64x64x32 .f32 := addf main_v0 main_v2
  let main_v4 : FVec F S64x64x64x32 .f32 := (transpose S64x64x64x32 [0, 2, 1, 3] · transposes_S64x64x64x32_S64x64x64x32_0_2_1_3) main_v3
  let main_v5 : FVec F S4096x64x32 .f32 := shapeCast S4096x64x32 main_v4 shapeCasts_S64x64x64x32_S4096x64x32
  let main_v6 : FVec F S1x64x32 .f32 := broadcastInDim S1x64x32 ![1, 2] bcast_S64x32_S1x64x32_1_2 main_arg5
  let main_v7 : FVec F S4096x64x32 .f32 := broadcastInDim S4096x64x32 ![0, 1, 2] bcast_S1x64x32_S4096x64x32_0_1_2 main_v6
  let main_v8 : FVec F S4096x64x32 .f32 := addf main_v5 main_v7
  let main_v9 : FVec F S4096x64x32 .f32 := (fun l r => Host.dotGeneral dot_S4096x64x32_S32x32_S4096x64x32_2_0_01_1_n_n none l r) main_v8 main_arg6
  let main_v10 : FVec F S4096x64x32 .f32 := (fun l r => Host.dotGeneral dot_S4096x64x32_S32x32_S4096x64x32_2_0_01_1_n_n none l r) main_v8 main_arg7
  let main_v11 : FVec F S4096x64x64 .f32 := (fun l r => Host.dotGeneral dot_S4096x64x32_S4096x64x32_S4096x64x64_2_2_1_1_0_0 none l r) main_v9 main_v10
  let main_cst : FVec F S_ .f32 := constant S_ .f32 0x42000000#32
  let main_v12 : FVec F S_ .f32 := Host.sqrt main_cst
  let main_v13 : FVec F S4096x64x64 .f32 := broadcastInDim S4096x64x64 ![] bcast_S_S4096x64x64 main_v12
  let main_v14 : FVec F S4096x64x64 .f32 := Host.divf main_v11 main_v13
  let main_values : FVec F S4096x64x8 .f32 := (fun x => (Host.topK S4096x64x8 2 (FloatOps.cmpfTotal .gt) x sliceFits_S4096x64x64_S4096x64x8).1) main_v14
  let main_indices : IVec S4096x64x8 32 := (fun x => (Host.topK S4096x64x8 2 (FloatOps.cmpfTotal .gt) x sliceFits_S4096x64x64_S4096x64x8).2) main_v14
  let main_v15 : FVec F S1x64x32 .f32 := broadcastInDim S1x64x32 ![1, 2] bcast_S64x32_S1x64x32_1_2 main_arg5
  let main_v16 : FVec F S4096x64x32 .f32 := broadcastInDim S4096x64x32 ![0, 1, 2] bcast_S1x64x32_S4096x64x32_0_1_2 main_v15
  let main_v17 : FVec F S4096x64x32 .f32 := addf main_v5 main_v16
  let main_v18 : FVec F S4096x64x32 .f32 := (fun l r => Host.dotGeneral dot_S4096x64x32_S32x32_S4096x64x32_2_0_01_1_n_n none l r) main_v17 main_arg6
  let main_v19 : FVec F S4096x64x32 .f32 := (fun l r => Host.dotGeneral dot_S4096x64x32_S32x32_S4096x64x32_2_0_01_1_n_n none l r) main_v17 main_arg7
  let main_v20 : FVec F S4096x64x64 .f32 := (fun l r => Host.dotGeneral dot_S4096x64x32_S4096x64x32_S4096x64x64_2_2_1_1_0_0 none l r) main_v18 main_v19
  fn_part1 (F := F) main_arg8 main_arg9 main_arg10 main_arg11 main_arg12 main_arg13 main_arg14 main_arg15 main_v5 main_values main_v20
-- ==== Kernel.lean ====
abbrev S64x64x64x64 : Shape := ⟨4, ![64, 64, 64, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x128 : Shape := ⟨2, ![32, 128]⟩
abbrev S128 : Shape := ⟨1, ![128]⟩
abbrev S128x32 : Shape := ⟨2, ![128, 32]⟩
abbrev S2048x32 : Shape := ⟨2, ![2048, 32]⟩
abbrev S32x1 : Shape := ⟨2, ![32, 1]⟩
abbrev S1 : Shape := ⟨1, ![1]⟩
abbrev S1x32 : Shape := ⟨2, ![1, 32]⟩
abbrev S32x64 : Shape := ⟨2, ![32, 64]⟩
abbrev S1x128 : Shape := ⟨2, ![1, 128]⟩
abbrev S1x1 : Shape := ⟨2, ![1, 1]⟩
abbrev S64x64x4096 : Shape := ⟨3, ![64, 64, 4096]⟩
abbrev S64x64x32 : Shape := ⟨3, ![64, 64, 32]⟩
abbrev S64x64x256 : Shape := ⟨3, ![64, 64, 256]⟩
abbrev S4x64x32 : Shape := ⟨3, ![4, 64, 32]⟩
abbrev S64x64x64 : Shape := ⟨3, ![64, 64, 64]⟩
abbrev S256x64x64 : Shape := ⟨3, ![256, 64, 64]⟩
abbrev S16384x64 : Shape := ⟨2, ![16384, 64]⟩
abbrev S16384x32 : Shape := ⟨2, ![16384, 32]⟩
abbrev S1x64x64 : Shape := ⟨3, ![1, 64, 64]⟩
abbrev S256x64x32 : Shape := ⟨3, ![256, 64, 32]⟩
abbrev S1x64x32 : Shape := ⟨3, ![1, 64, 32]⟩
abbrev S256x64 : Shape := ⟨2, ![256, 64]⟩
abbrev S256x64x1 : Shape := ⟨3, ![256, 64, 1]⟩
abbrev S1x1x32 : Shape := ⟨3, ![1, 1, 32]⟩
abbrev S16384 : Shape := ⟨1, ![16384]⟩
abbrev S16384x1 : Shape := ⟨2, ![16384, 1]⟩
abbrev S16384x128 : Shape := ⟨2, ![16384, 128]⟩
abbrev S256x32 : Shape := ⟨2, ![256, 32]⟩
abbrev S64x2048 : Shape := ⟨2, ![64, 2048]⟩
abbrev S64x128 : Shape := ⟨2, ![64, 128]⟩
abbrev S64x1 : Shape := ⟨2, ![64, 1]⟩

abbrev nBuf : Space → Nat
  | .hbm => 56
  | .vmem => 30
  | .smem => 0
  | _ => 0

abbrev bufTy : (tb : Table) → Fin (tcTables nBuf tb) → BufTy
  | .hbm, ⟨0, _⟩ => ⟨S64x64x64x64, .f32⟩
  | .hbm, ⟨1, _⟩ => ⟨S64x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S64x32, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S32x32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S64x32, .f32⟩
  | .hbm, ⟨14, _⟩ => ⟨S32x32, .f32⟩
  | .hbm, ⟨15, _⟩ => ⟨S32x32, .f32⟩
  | .hbm, ⟨16, _⟩ => ⟨S32x32, .f32⟩
  | .hbm, ⟨17, _⟩ => ⟨S32x32, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S32x128, .f32⟩
  | .hbm, ⟨22, _⟩ => ⟨S128, .f32⟩
  | .hbm, ⟨23, _⟩ => ⟨S128x32, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S2048x32, .f32⟩
  | .hbm, ⟨28, _⟩ => ⟨S32, .f32⟩
  | .hbm, ⟨29, _⟩ => ⟨S32x1, .f32⟩
  | .hbm, ⟨30, _⟩ => ⟨S1, .f32⟩
  | .hbm, ⟨31, _⟩ => ⟨S1x32, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S1x32, .f32⟩
  | .hbm, ⟨37, _⟩ => ⟨S1x32, .f32⟩
  | .hbm, ⟨38, _⟩ => ⟨S1x32, .f32⟩
  | .hbm, ⟨39, _⟩ => ⟨S1x32, .f32⟩
  | .hbm, ⟨40, _⟩ => ⟨S1x32, .f32⟩
  | .hbm, ⟨41, _⟩ => ⟨S1x32, .f32⟩
  | .hbm, ⟨42, _⟩ => ⟨S1x128, .f32⟩
  | .hbm, ⟨43, _⟩ => ⟨S1x32, .f32⟩
  | .hbm, ⟨44, _⟩ => ⟨S1x32, .f32⟩
  | .hbm, ⟨45, _⟩ => ⟨S1x32, .f32⟩
  | .hbm, ⟨46, _⟩ => ⟨S1x32, .f32⟩
  | .hbm, ⟨47, _⟩ => ⟨S1x32, .f32⟩
  | .hbm, ⟨48, _⟩ => ⟨S1x1, .f32⟩
  | .hbm, ⟨49, _⟩ => ⟨S64x64x4096, .f32⟩
  | .hbm, ⟨50, _⟩ => ⟨S64x64x32, .f32⟩
  | .hbm, ⟨51, _⟩ => ⟨S64x64x32, .f32⟩
  | .hbm, ⟨52, _⟩ => ⟨S64x2048, .f32⟩
  | .hbm, ⟨53, _⟩ => ⟨S64x128, .f32⟩
  | .hbm, ⟨54, _⟩ => ⟨S64x1, .f32⟩
  | .hbm, ⟨55, _⟩ => ⟨S64, .f32⟩
  | .local _ .vmem, ⟨0, _⟩ => ⟨S64x64x256, .f32⟩
  | .local _ .vmem, ⟨1, _⟩ => ⟨S64x64x256, .f32⟩
  | .local _ .vmem, ⟨2, _⟩ => ⟨S64x32, .f32⟩
  | .local _ .vmem, ⟨3, _⟩ => ⟨S1x32, .f32⟩
  | .local _ .vmem, ⟨4, _⟩ => ⟨S64x32, .f32⟩
  | .local _ .vmem, ⟨5, _⟩ => ⟨S32x64, .f32⟩
  | .local _ .vmem, ⟨6, _⟩ => ⟨S32x64, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S64x32, .f32⟩
  | .local _ .vmem, ⟨11, _⟩ => ⟨S32x64, .f32⟩
  | .local _ .vmem, ⟨12, _⟩ => ⟨S32x64, .f32⟩
  | .local _ .vmem, ⟨13, _⟩ => ⟨S1x32, .f32⟩
  | .local _ .vmem, ⟨14, _⟩ => ⟨S1x32, .f32⟩
  | .local _ .vmem, ⟨15, _⟩ => ⟨S1x32, .f32⟩
  | .local _ .vmem, ⟨16, _⟩ => ⟨S32x128, .f32⟩
  | .local _ .vmem, ⟨17, _⟩ => ⟨S1x128, .f32⟩
  | .local _ .vmem, ⟨18, _⟩ => ⟨S128x32, .f32⟩
  | .local _ .vmem, ⟨19, _⟩ => ⟨S1x32, .f32⟩
  | .local _ .vmem, ⟨20, _⟩ => ⟨S1x32, .f32⟩
  | .local _ .vmem, ⟨21, _⟩ => ⟨S1x32, .f32⟩
  | .local _ .vmem, ⟨22, _⟩ => ⟨S4x64x32, .f32⟩
  | .local _ .vmem, ⟨23, _⟩ => ⟨S4x64x32, .f32⟩
  | .local _ .vmem, ⟨24, _⟩ => ⟨S64x2048, .f32⟩
  | .local _ .vmem, ⟨25, _⟩ => ⟨S2048x32, .f32⟩
  | .local _ .vmem, ⟨26, _⟩ => ⟨S1x32, .f32⟩
  | .local _ .vmem, ⟨27, _⟩ => ⟨S1x32, .f32⟩
  | .local _ .vmem, ⟨28, _⟩ => ⟨S1x1, .f32⟩
  | .local _ .vmem, ⟨29, _⟩ => ⟨S64x128, .f32⟩
  | _, _ => ⟨S64x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc1_stg0_0 : Ref sig .tc := ⟨.vmem, 24, rfl⟩
abbrev cc1_stg1_0 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23
abbrev cc1_sem0_0 : DmaSem sig := 24
abbrev cc1_sem1_0 : DmaSem sig := 25
abbrev cc1_sem2_0 : DmaSem sig := 26
abbrev cc1_sem3_0 : DmaSem sig := 27
abbrev cc1_sem4_0 : DmaSem sig := 28
abbrev cc1_sem5_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x32 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S4x64x32 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev grid1 : Pipeline.Grid := .none

abbrev stage1_0 : Fin 1 → Memref sig .tc .vmem S64x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale" => some (((Real.sqrt 32)⁻¹ : ℝ) : EReal)
  | _ => none
-- ==== ReferenceIdeal.lean ====
abbrev S64x64x64x64 : Shape := ⟨4, ![64, 64, 64, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x128 : Shape := ⟨2, ![32, 128]⟩
abbrev S128 : Shape := ⟨1, ![128]⟩
abbrev S128x32 : Shape := ⟨2, ![128, 32]⟩
abbrev S2048x32 : Shape := ⟨2, ![2048, 32]⟩
abbrev S32x1 : Shape := ⟨2, ![32, 1]⟩
abbrev S1 : Shape := ⟨1, ![1]⟩
abbrev S64x64x64x32 : Shape := ⟨4, ![64, 64, 64, 32]⟩
abbrev S1x1x1x32 : Shape := ⟨4, ![1, 1, 1, 32]⟩
abbrev S4096x64x32 : Shape := ⟨3, ![4096, 64, 32]⟩
abbrev S1x64x32 : Shape := ⟨3, ![1, 64, 32]⟩
abbrev S4096x64x64 : Shape := ⟨3, ![4096, 64, 64]⟩
abbrev S_ : Shape := ⟨0, ![]⟩
abbrev S4096x64x8 : Shape := ⟨3, ![4096, 64, 8]⟩
abbrev S4096x64x1 : Shape := ⟨3, ![4096, 64, 1]⟩
abbrev S4096x64 : Shape := ⟨2, ![4096, 64]⟩
abbrev S1x64x64 : Shape := ⟨3, ![1, 64, 64]⟩
abbrev S64x1 : Shape := ⟨2, ![64, 1]⟩
abbrev S64x2 : Shape := ⟨2, ![64, 2]⟩
abbrev S1x1x32 : Shape := ⟨3, ![1, 1, 32]⟩
abbrev S4096x64x128 : Shape := ⟨3, ![4096, 64, 128]⟩
abbrev S1x1x128 : Shape := ⟨3, ![1, 1, 128]⟩
abbrev S4096x32 : Shape := ⟨2, ![4096, 32]⟩
abbrev S64x2048 : Shape := ⟨2, ![64, 2048]⟩
abbrev S1x32 : Shape := ⟨2, ![1, 32]⟩
abbrev S1x1 : Shape := ⟨2, ![1, 1]⟩

abbrev nBuf : Space → Nat
  | .hbm => 388
  | .vmem => 0
  | .smem => 0
  | _ => 0

abbrev hbmTy0_0 (i : Nat) : BufTy := match i % 128 with
  | 0 => ⟨S64x64x64x64, .f32⟩
  | 1 => ⟨S64x64, .f32⟩
  | 2 => ⟨S64, .f32⟩
  | 3 => ⟨S64x32, .f32⟩
  | 4 => ⟨S32, .f32⟩
  | 5 => ⟨S64x32, .f32⟩
  | 6 => ⟨S32x32, .f32⟩
  | 7 => ⟨S32x32, .f32⟩
  | 8 => ⟨S32x32, .f32⟩
  | 9 => ⟨S32x32, .f32⟩
  | 10 => ⟨S32, .f32⟩
  | 11 => ⟨S32, .f32⟩
  | 12 => ⟨S32, .f32⟩
  | 13 => ⟨S64x32, .f32⟩
  | 14 => ⟨S32x32, .f32⟩
  | 15 => ⟨S32x32, .f32⟩
  | 16 => ⟨S32x32, .f32⟩
  | 17 => ⟨S32x32, .f32⟩
  | 18 => ⟨S32, .f32⟩
  | 19 => ⟨S32, .f32⟩
  | 20 => ⟨S32, .f32⟩
  | 21 => ⟨S32x128, .f32⟩
  | 22 => ⟨S128, .f32⟩
  | 23 => ⟨S128x32, .f32⟩
  | 24 => ⟨S32, .f32⟩
  | 25 => ⟨S32, .f32⟩
  | 26 => ⟨S32, .f32⟩
  | 27 => ⟨S2048x32, .f32⟩
  | 28 => ⟨S32, .f32⟩
  | 29 => ⟨S32x1, .f32⟩
  | 30 => ⟨S1, .f32⟩
  | 31 => ⟨S64x64x64x32, .f32⟩
  | 32 => ⟨S1x1x1x32, .f32⟩
  | 33 => ⟨S64x64x64x32, .f32⟩
  | 34 => ⟨S64x64x64x32, .f32⟩
  | 35 => ⟨S64x64x64x32, .f32⟩
  | 36 => ⟨S4096x64x32, .f32⟩
  | 37 => ⟨S1x64x32, .f32⟩
  | 38 => ⟨S4096x64x32, .f32⟩
  | 39 => ⟨S4096x64x32, .f32⟩
  | 40 => ⟨S4096x64x32, .f32⟩
  | 41 => ⟨S4096x64x32, .f32⟩
  | 42 => ⟨S4096x64x64, .f32⟩
  | 43 => ⟨S_, .f32⟩
  | 44 => ⟨S_, .f32⟩
  | 45 => ⟨S4096x64x64, .f32⟩
  | 46 => ⟨S4096x64x64, .f32⟩
  | 47 => ⟨S4096x64x8, .f32⟩
  | 48 => ⟨S4096x64x8, .i32⟩
  | 49 => ⟨S4096x64x1, .f32⟩
  | 50 => ⟨S4096x64x64, .f32⟩
  | 51 => ⟨S4096x64x64, .i1⟩
  | 52 => ⟨S_, .f32⟩
  | 53 => ⟨S_, .f32⟩
  | 54 => ⟨S4096x64x64, .f32⟩
  | 55 => ⟨S4096x64x64, .f32⟩
  | 56 => ⟨S_, .f32⟩
  | 57 => ⟨S4096x64, .f32⟩
  | 58 => ⟨S_, .f32⟩
  | 59 => ⟨S4096x64, .f32⟩
  | 60 => ⟨S4096x64, .f32⟩
  | 61 => ⟨S4096x64x1, .f32⟩
  | 62 => ⟨S4096x64x64, .f32⟩
  | 63 => ⟨S4096x64x64, .f32⟩
  | 64 => ⟨S4096x64x64, .f32⟩
  | 65 => ⟨S_, .f32⟩
  | 66 => ⟨S4096x64, .f32⟩
  | 67 => ⟨S4096x64x1, .f32⟩
  | 68 => ⟨S4096x64x64, .f32⟩
  | 69 => ⟨S4096x64x64, .f32⟩
  | 70 => ⟨S64x64, .i32⟩
  | 71 => ⟨S64x64, .i32⟩
  | 72 => ⟨S_, .i32⟩
  | 73 => ⟨S64x64, .i32⟩
  | 74 => ⟨S64x64, .i32⟩
  | 75 => ⟨S64x64, .i1⟩
  | 76 => ⟨S64x64, .f32⟩
  | 77 => ⟨S_, .f32⟩
  | 78 => ⟨S64x64, .f32⟩
  | 79 => ⟨S64x64, .f32⟩
  | 80 => ⟨S1x64x64, .f32⟩
  | 81 => ⟨S4096x64x64, .f32⟩
  | 82 => ⟨S4096x64x64, .f32⟩
  | 83 => ⟨S64, .i32⟩
  | 84 => ⟨S64, .i32⟩
  | 85 => ⟨S_, .i32⟩
  | 86 => ⟨S64, .i32⟩
  | 87 => ⟨S64, .i1⟩
  | 88 => ⟨S_, .i32⟩
  | 89 => ⟨S64, .i32⟩
  | 90 => ⟨S64, .i32⟩
  | 91 => ⟨S64, .i32⟩
  | 92 => ⟨S_, .i32⟩
  | 93 => ⟨S64, .i32⟩
  | 94 => ⟨S64, .i1⟩
  | 95 => ⟨S_, .i32⟩
  | 96 => ⟨S64, .i32⟩
  | 97 => ⟨S64, .i32⟩
  | 98 => ⟨S64, .i32⟩
  | 99 => ⟨S64x1, .i32⟩
  | 100 => ⟨S64x1, .i32⟩
  | 101 => ⟨S64x2, .i32⟩
  | 102 => ⟨S4096x64, .f32⟩
  | 103 => ⟨S4096x64x1, .f32⟩
  | 104 => ⟨S4096x64x32, .f32⟩
  | 105 => ⟨S4096x64x32, .f32⟩
  | 106 => ⟨S4096x64x32, .f32⟩
  | 107 => ⟨S4096x64x32, .f32⟩
  | 108 => ⟨S4096x64x32, .f32⟩
  | 109 => ⟨S4096x64x32, .f32⟩
  | 110 => ⟨S1x1x32, .f32⟩
  | 111 => ⟨S4096x64x32, .f32⟩
  | 112 => ⟨S4096x64x32, .f32⟩
  | 113 => ⟨S_, .f32⟩
  | 114 => ⟨S4096x64x32, .f32⟩
  | 115 => ⟨S4096x64x32, .f32⟩
  | 116 => ⟨S4096x64x32, .f32⟩
  | 117 => ⟨S_, .f32⟩
  | 118 => ⟨S4096x64, .f32⟩
  | 119 => ⟨S4096x64x1, .f32⟩
  | 120 => ⟨S_, .f32⟩
  | 121 => ⟨S4096x64x1, .f32⟩
  | 122 => ⟨S4096x64x1, .f32⟩
  | 123 => ⟨S_, .i32⟩
  | 124 => ⟨S_, .f32⟩
  | 125 => ⟨S4096x64, .f32⟩
  | 126 => ⟨S4096x64x1, .f32⟩
  | 127 => ⟨S_, .f32⟩
  | _ => ⟨S64x64x64x64, .f32⟩

abbrev hbmTy0_1 (i : Nat) : BufTy := match i % 128 with
  | 0 => ⟨S4096x64x1, .f32⟩
  | 1 => ⟨S4096x64x1, .f32⟩
  | 2 => ⟨S4096x64x32, .f32⟩
  | 3 => ⟨S4096x64x32, .f32⟩
  | 4 => ⟨S4096x64x32, .f32⟩
  | 5 => ⟨S_, .f32⟩
  | 6 => ⟨S_, .f32⟩
  | 7 => ⟨S_, .f32⟩
  | 8 => ⟨S_, .f32⟩
  | 9 => ⟨S4096x64, .f32⟩
  | 10 => ⟨S4096x64x1, .f32⟩
  | 11 => ⟨S4096x64x1, .f32⟩
  | 12 => ⟨S4096x64x1, .f32⟩
  | 13 => ⟨S_, .f32⟩
  | 14 => ⟨S_, .i1⟩
  | 15 => ⟨S_, .f32⟩
  | 16 => ⟨S_, .f32⟩
  | 17 => ⟨S4096x64x1, .f32⟩
  | 18 => ⟨S4096x64x1, .f32⟩
  | 19 => ⟨S4096x64x32, .f32⟩
  | 20 => ⟨S4096x64x32, .f32⟩
  | 21 => ⟨S_, .f32⟩
  | 22 => ⟨S4096x64x1, .f32⟩
  | 23 => ⟨S4096x64x1, .f32⟩
  | 24 => ⟨S4096x64x1, .f32⟩
  | 25 => ⟨S4096x64x32, .f32⟩
  | 26 => ⟨S4096x64x32, .f32⟩
  | 27 => ⟨S1x1x32, .f32⟩
  | 28 => ⟨S4096x64x32, .f32⟩
  | 29 => ⟨S4096x64x32, .f32⟩
  | 30 => ⟨S1x1x32, .f32⟩
  | 31 => ⟨S4096x64x32, .f32⟩
  | 32 => ⟨S4096x64x32, .f32⟩
  | 33 => ⟨S1x64x32, .f32⟩
  | 34 => ⟨S4096x64x32, .f32⟩
  | 35 => ⟨S4096x64x32, .f32⟩
  | 36 => ⟨S4096x64x32, .f32⟩
  | 37 => ⟨S4096x64x32, .f32⟩
  | 38 => ⟨S4096x64x64, .f32⟩
  | 39 => ⟨S_, .f32⟩
  | 40 => ⟨S_, .f32⟩
  | 41 => ⟨S4096x64x64, .f32⟩
  | 42 => ⟨S4096x64x64, .f32⟩
  | 43 => ⟨S4096x64x8, .f32⟩
  | 44 => ⟨S4096x64x8, .i32⟩
  | 45 => ⟨S4096x64x1, .f32⟩
  | 46 => ⟨S4096x64x64, .f32⟩
  | 47 => ⟨S4096x64x64, .i1⟩
  | 48 => ⟨S_, .f32⟩
  | 49 => ⟨S_, .f32⟩
  | 50 => ⟨S4096x64x64, .f32⟩
  | 51 => ⟨S4096x64x64, .f32⟩
  | 52 => ⟨S_, .f32⟩
  | 53 => ⟨S4096x64, .f32⟩
  | 54 => ⟨S_, .f32⟩
  | 55 => ⟨S4096x64, .f32⟩
  | 56 => ⟨S4096x64, .f32⟩
  | 57 => ⟨S4096x64x1, .f32⟩
  | 58 => ⟨S4096x64x64, .f32⟩
  | 59 => ⟨S4096x64x64, .f32⟩
  | 60 => ⟨S4096x64x64, .f32⟩
  | 61 => ⟨S_, .f32⟩
  | 62 => ⟨S4096x64, .f32⟩
  | 63 => ⟨S4096x64x1, .f32⟩
  | 64 => ⟨S4096x64x64, .f32⟩
  | 65 => ⟨S4096x64x64, .f32⟩
  | 66 => ⟨S64x64, .i32⟩
  | 67 => ⟨S64x64, .i32⟩
  | 68 => ⟨S_, .i32⟩
  | 69 => ⟨S64x64, .i32⟩
  | 70 => ⟨S64x64, .i32⟩
  | 71 => ⟨S64x64, .i1⟩
  | 72 => ⟨S64x64, .f32⟩
  | 73 => ⟨S_, .f32⟩
  | 74 => ⟨S64x64, .f32⟩
  | 75 => ⟨S64x64, .f32⟩
  | 76 => ⟨S1x64x64, .f32⟩
  | 77 => ⟨S4096x64x64, .f32⟩
  | 78 => ⟨S4096x64x64, .f32⟩
  | 79 => ⟨S64, .i32⟩
  | 80 => ⟨S64, .i32⟩
  | 81 => ⟨S_, .i32⟩
  | 82 => ⟨S64, .i32⟩
  | 83 => ⟨S64, .i1⟩
  | 84 => ⟨S_, .i32⟩
  | 85 => ⟨S64, .i32⟩
  | 86 => ⟨S64, .i32⟩
  | 87 => ⟨S64, .i32⟩
  | 88 => ⟨S_, .i32⟩
  | 89 => ⟨S64, .i32⟩
  | 90 => ⟨S64, .i1⟩
  | 91 => ⟨S_, .i32⟩
  | 92 => ⟨S64, .i32⟩
  | 93 => ⟨S64, .i32⟩
  | 94 => ⟨S64, .i32⟩
  | 95 => ⟨S64x1, .i32⟩
  | 96 => ⟨S64x1, .i32⟩
  | 97 => ⟨S64x2, .i32⟩
  | 98 => ⟨S4096x64, .f32⟩
  | 99 => ⟨S4096x64x1, .f32⟩
  | 100 => ⟨S4096x64x32, .f32⟩
  | 101 => ⟨S4096x64x32, .f32⟩
  | 102 => ⟨S4096x64x32, .f32⟩
  | 103 => ⟨S4096x64x32, .f32⟩
  | 104 => ⟨S4096x64x32, .f32⟩
  | 105 => ⟨S4096x64x32, .f32⟩
  | 106 => ⟨S1x1x32, .f32⟩
  | 107 => ⟨S4096x64x32, .f32⟩
  | 108 => ⟨S4096x64x32, .f32⟩
  | 109 => ⟨S_, .f32⟩
  | 110 => ⟨S4096x64x32, .f32⟩
  | 111 => ⟨S4096x64x32, .f32⟩
  | 112 => ⟨S4096x64x32, .f32⟩
  | 113 => ⟨S_, .f32⟩
  | 114 => ⟨S4096x64, .f32⟩
  | 115 => ⟨S4096x64x1, .f32⟩
  | 116 => ⟨S_, .f32⟩
  | 117 => ⟨S4096x64x1, .f32⟩
  | 118 => ⟨S4096x64x1, .f32⟩
  | 119 => ⟨S_, .i32⟩
  | 120 => ⟨S_, .f32⟩
  | 121 => ⟨S4096x64, .f32⟩
  | 122 => ⟨S4096x64x1, .f32⟩
  | 123 => ⟨S_, .f32⟩
  | 124 => ⟨S4096x64x1, .f32⟩
  | 125 => ⟨S4096x64x1, .f32⟩
  | 126 => ⟨S4096x64x32, .f32⟩
  | 127 => ⟨S4096x64x32, .f32⟩
  | _ => ⟨S64x64x64x64, .f32⟩

abbrev hbmTy0_2 (i : Nat) : BufTy := match i % 128 with
  | 0 => ⟨S4096x64x32, .f32⟩
  | 1 => ⟨S_, .f32⟩
  | 2 => ⟨S_, .f32⟩
  | 3 => ⟨S_, .f32⟩
  | 4 => ⟨S_, .f32⟩
  | 5 => ⟨S4096x64, .f32⟩
  | 6 => ⟨S4096x64x1, .f32⟩
  | 7 => ⟨S4096x64x1, .f32⟩
  | 8 => ⟨S4096x64x1, .f32⟩
  | 9 => ⟨S_, .f32⟩
  | 10 => ⟨S_, .i1⟩
  | 11 => ⟨S_, .f32⟩
  | 12 => ⟨S_, .f32⟩
  | 13 => ⟨S4096x64x1, .f32⟩
  | 14 => ⟨S4096x64x1, .f32⟩
  | 15 => ⟨S4096x64x32, .f32⟩
  | 16 => ⟨S4096x64x32, .f32⟩
  | 17 => ⟨S_, .f32⟩
  | 18 => ⟨S4096x64x1, .f32⟩
  | 19 => ⟨S4096x64x1, .f32⟩
  | 20 => ⟨S4096x64x1, .f32⟩
  | 21 => ⟨S4096x64x32, .f32⟩
  | 22 => ⟨S4096x64x32, .f32⟩
  | 23 => ⟨S1x1x32, .f32⟩
  | 24 => ⟨S4096x64x32, .f32⟩
  | 25 => ⟨S4096x64x32, .f32⟩
  | 26 => ⟨S1x1x32, .f32⟩
  | 27 => ⟨S4096x64x32, .f32⟩
  | 28 => ⟨S4096x64x32, .f32⟩
  | 29 => ⟨S4096x64x128, .f32⟩
  | 30 => ⟨S1x1x128, .f32⟩
  | 31 => ⟨S4096x64x128, .f32⟩
  | 32 => ⟨S4096x64x128, .f32⟩
  | 33 => ⟨S4096x64x128, .f32⟩
  | 34 => ⟨S4096x64x128, .f32⟩
  | 35 => ⟨S_, .f32⟩
  | 36 => ⟨S4096x64x128, .f32⟩
  | 37 => ⟨S4096x64x128, .f32⟩
  | 38 => ⟨S4096x64x128, .f32⟩
  | 39 => ⟨S_, .f32⟩
  | 40 => ⟨S4096x64x128, .f32⟩
  | 41 => ⟨S4096x64x128, .f32⟩
  | 42 => ⟨S4096x64x128, .f32⟩
  | 43 => ⟨S_, .f32⟩
  | 44 => ⟨S4096x64x128, .f32⟩
  | 45 => ⟨S4096x64x128, .f32⟩
  | 46 => ⟨S_, .f32⟩
  | 47 => ⟨S4096x64x128, .f32⟩
  | 48 => ⟨S4096x64x128, .f32⟩
  | 49 => ⟨S4096x64x128, .f32⟩
  | 50 => ⟨S4096x64x32, .f32⟩
  | 51 => ⟨S1x1x32, .f32⟩
  | 52 => ⟨S4096x64x32, .f32⟩
  | 53 => ⟨S4096x64x32, .f32⟩
  | 54 => ⟨S4096x64x32, .f32⟩
  | 55 => ⟨S_, .f32⟩
  | 56 => ⟨S4096x64, .f32⟩
  | 57 => ⟨S4096x64x1, .f32⟩
  | 58 => ⟨S_, .f32⟩
  | 59 => ⟨S4096x64x1, .f32⟩
  | 60 => ⟨S4096x64x1, .f32⟩
  | 61 => ⟨S_, .i32⟩
  | 62 => ⟨S_, .f32⟩
  | 63 => ⟨S4096x64, .f32⟩
  | 64 => ⟨S4096x64x1, .f32⟩
  | 65 => ⟨S_, .f32⟩
  | 66 => ⟨S4096x64x1, .f32⟩
  | 67 => ⟨S4096x64x1, .f32⟩
  | 68 => ⟨S4096x64x32, .f32⟩
  | 69 => ⟨S4096x64x32, .f32⟩
  | 70 => ⟨S4096x64x32, .f32⟩
  | 71 => ⟨S_, .f32⟩
  | 72 => ⟨S_, .f32⟩
  | 73 => ⟨S_, .f32⟩
  | 74 => ⟨S_, .f32⟩
  | 75 => ⟨S4096x64, .f32⟩
  | 76 => ⟨S4096x64x1, .f32⟩
  | 77 => ⟨S4096x64x1, .f32⟩
  | 78 => ⟨S4096x64x1, .f32⟩
  | 79 => ⟨S_, .f32⟩
  | 80 => ⟨S_, .i1⟩
  | 81 => ⟨S_, .f32⟩
  | 82 => ⟨S_, .f32⟩
  | 83 => ⟨S4096x64x1, .f32⟩
  | 84 => ⟨S4096x64x1, .f32⟩
  | 85 => ⟨S4096x64x32, .f32⟩
  | 86 => ⟨S4096x64x32, .f32⟩
  | 87 => ⟨S_, .f32⟩
  | 88 => ⟨S4096x64x1, .f32⟩
  | 89 => ⟨S4096x64x1, .f32⟩
  | 90 => ⟨S4096x64x1, .f32⟩
  | 91 => ⟨S4096x64x32, .f32⟩
  | 92 => ⟨S4096x64x32, .f32⟩
  | 93 => ⟨S1x1x32, .f32⟩
  | 94 => ⟨S4096x64x32, .f32⟩
  | 95 => ⟨S4096x64x32, .f32⟩
  | 96 => ⟨S1x1x32, .f32⟩
  | 97 => ⟨S4096x64x32, .f32⟩
  | 98 => ⟨S4096x64x32, .f32⟩
  | 99 => ⟨S_, .f32⟩
  | 100 => ⟨S4096x32, .f32⟩
  | 101 => ⟨S_, .f32⟩
  | 102 => ⟨S4096x32, .f32⟩
  | 103 => ⟨S4096x32, .f32⟩
  | 104 => ⟨S4096x32, .f32⟩
  | 105 => ⟨S64x2048, .f32⟩
  | 106 => ⟨S64x32, .f32⟩
  | 107 => ⟨S1x32, .f32⟩
  | 108 => ⟨S64x32, .f32⟩
  | 109 => ⟨S64x32, .f32⟩
  | 110 => ⟨S64x32, .f32⟩
  | 111 => ⟨S64x32, .f32⟩
  | 112 => ⟨S_, .f32⟩
  | 113 => ⟨S64x32, .f32⟩
  | 114 => ⟨S64x32, .f32⟩
  | 115 => ⟨S64x32, .f32⟩
  | 116 => ⟨S_, .f32⟩
  | 117 => ⟨S64x32, .f32⟩
  | 118 => ⟨S64x32, .f32⟩
  | 119 => ⟨S64x32, .f32⟩
  | 120 => ⟨S_, .f32⟩
  | 121 => ⟨S64x32, .f32⟩
  | 122 => ⟨S64x32, .f32⟩
  | 123 => ⟨S_, .f32⟩
  | 124 => ⟨S64x32, .f32⟩
  | 125 => ⟨S64x32, .f32⟩
  | 126 => ⟨S64x32, .f32⟩
  | 127 => ⟨S64x1, .f32⟩
  | _ => ⟨S64x64x64x64, .f32⟩

abbrev hbmTy0_3 (i : Nat) : BufTy := match i % 128 with
  | 0 => ⟨S1x1, .f32⟩
  | 1 => ⟨S64x1, .f32⟩
  | 2 => ⟨S64x1, .f32⟩
  | 3 => ⟨S64, .f32⟩
  | _ => ⟨S64x64x64x64, .f32⟩

abbrev hbmTy (i : Nat) : BufTy := match i / 128 with
  | 0 => hbmTy0_0 i
  | 1 => hbmTy0_1 i
  | 2 => hbmTy0_2 i
  | 3 => hbmTy0_3 i
  | _ => ⟨S64x64x64x64, .f32⟩

abbrev bufTy : (tb : Table) → Fin (tcTables nBuf tb) → BufTy
  | .hbm, ⟨i, _⟩ => hbmTy i
  | _, _ => ⟨S64x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_values : Ref sig .tc := ⟨.hbm, 47, rfl⟩
abbrev main_indices : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_0 : Ref sig .tc := ⟨.hbm, 52, rfl⟩
abbrev main_call0_v0 : Ref sig .tc := ⟨.hbm, 53, rfl⟩
abbrev main_call0_v1 : Ref sig .tc := ⟨.hbm, 54, rfl⟩
abbrev main_v18 : Ref sig .tc := ⟨.hbm, 55, rfl⟩
abbrev main_cst_1 : Ref sig .tc := ⟨.hbm, 56, rfl⟩
abbrev main_v19 : Ref sig .tc := ⟨.hbm, 57, rfl⟩
abbrev main_cst_2 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_3 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_c : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_4 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_call1_v0 : Ref sig .tc := ⟨.hbm, 83, rfl⟩
abbrev main_call1_v1 : Ref sig .tc := ⟨.hbm, 84, rfl⟩
abbrev main_call1_c : Ref sig .tc := ⟨.hbm, 85, rfl⟩
abbrev main_call1_v2 : Ref sig .tc := ⟨.hbm, 86, rfl⟩
abbrev main_call1_v3 : Ref sig .tc := ⟨.hbm, 87, rfl⟩
abbrev main_call1_c_0 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_c_1 : Ref sig .tc := ⟨.hbm, 92, rfl⟩
abbrev main_call1_v7 : Ref sig .tc := ⟨.hbm, 93, rfl⟩
abbrev main_call1_v8 : Ref sig .tc := ⟨.hbm, 94, rfl⟩
abbrev main_call1_c_2 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_call2_cst : Ref sig .tc := ⟨.hbm, 113, rfl⟩
abbrev main_call2_v0 : Ref sig .tc := ⟨.hbm, 114, rfl⟩
abbrev main_v52 : Ref sig .tc := ⟨.hbm, 115, rfl⟩
abbrev main_v53 : Ref sig .tc := ⟨.hbm, 116, rfl⟩
abbrev main_cst_5 : Ref sig .tc := ⟨.hbm, 117, rfl⟩
abbrev main_v54 : Ref sig .tc := ⟨.hbm, 118, rfl⟩
abbrev main_v55 : Ref sig .tc := ⟨.hbm, 119, rfl⟩
abbrev main_cst_6 : Ref sig .tc := ⟨.hbm, 120, rfl⟩
abbrev main_v56 : Ref sig .tc := ⟨.hbm, 121, rfl⟩
abbrev main_v57 : Ref sig .tc := ⟨.hbm, 122, rfl⟩
abbrev main_c_7 : Ref sig .tc := ⟨.hbm, 123, rfl⟩
abbrev main_call3_cst : Ref sig .tc := ⟨.hbm, 124, rfl⟩
abbrev main_call3_v0 : Ref sig .tc := ⟨.hbm, 125, rfl⟩
abbrev main_call3_v1 : Ref sig .tc := ⟨.hbm, 126, rfl⟩
abbrev main_call3_cst_0 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_v6 : Ref sig .tc := ⟨.hbm, 132, rfl⟩
abbrev main_call3_v7 : Ref sig .tc := ⟨.hbm, 133, rfl⟩
abbrev main_call3_cst_1 : Ref sig .tc := ⟨.hbm, 134, rfl⟩
abbrev main_call3_v8 : Ref sig .tc := ⟨.hbm, 135, rfl⟩
abbrev main_call3_cst_2 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_v12 : Ref sig .tc := ⟨.hbm, 140, rfl⟩
abbrev main_call3_cst_3 : Ref sig .tc := ⟨.hbm, 141, rfl⟩
abbrev main_call3_v13 : Ref sig .tc := ⟨.hbm, 142, rfl⟩
abbrev main_call3_cst_4 : Ref sig .tc := ⟨.hbm, 143, rfl⟩
abbrev main_call3_call0_v0 : Ref sig .tc := ⟨.hbm, 144, rfl⟩
abbrev main_call3_call0_v1 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_cst_8 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_cst_9 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_values_10 : Ref sig .tc := ⟨.hbm, 171, rfl⟩
abbrev main_indices_11 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_cst_12 : Ref sig .tc := ⟨.hbm, 176, rfl⟩
abbrev main_call4_v0 : Ref sig .tc := ⟨.hbm, 177, rfl⟩
abbrev main_call4_v1 : Ref sig .tc := ⟨.hbm, 178, rfl⟩
abbrev main_v84 : Ref sig .tc := ⟨.hbm, 179, rfl⟩
abbrev main_cst_13 : Ref sig .tc := ⟨.hbm, 180, rfl⟩
abbrev main_v85 : Ref sig .tc := ⟨.hbm, 181, rfl⟩
abbrev main_cst_14 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_cst_15 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_c_16 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_cst_17 : Ref sig .tc := ⟨.hbm, 201, rfl⟩
abbrev main_v102 : Ref sig .tc := ⟨.hbm, 202, rfl⟩
abbrev main_v103 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_call5_v0 : Ref sig .tc := ⟨.hbm, 207, rfl⟩
abbrev main_call5_v1 : Ref sig .tc := ⟨.hbm, 208, rfl⟩
abbrev main_call5_c : Ref sig .tc := ⟨.hbm, 209, rfl⟩
abbrev main_call5_v2 : Ref sig .tc := ⟨.hbm, 210, rfl⟩
abbrev main_call5_v3 : Ref sig .tc := ⟨.hbm, 211, rfl⟩
abbrev main_call5_c_0 : Ref sig .tc := ⟨.hbm, 212, rfl⟩
abbrev main_call5_v4 : Ref sig .tc := ⟨.hbm, 213, rfl⟩
abbrev main_call5_v5 : Ref sig .tc := ⟨.hbm, 214, rfl⟩
abbrev main_call5_v6 : Ref sig .tc := ⟨.hbm, 215, rfl⟩
abbrev main_call5_c_1 : Ref sig .tc := ⟨.hbm, 216, rfl⟩
abbrev main_call5_v7 : Ref sig .tc := ⟨.hbm, 217, rfl⟩
abbrev main_call5_v8 : Ref sig .tc := ⟨.hbm, 218, rfl⟩
abbrev main_call5_c_2 : Ref sig .tc := ⟨.hbm, 219, rfl⟩
abbrev main_call5_v9 : Ref sig .tc := ⟨.hbm, 220, rfl⟩
abbrev main_call5_v10 : Ref sig .tc := ⟨.hbm, 221, rfl⟩
abbrev main_call5_v11 : Ref sig .tc := ⟨.hbm, 222, rfl⟩
abbrev main_call5_v12 : Ref sig .tc := ⟨.hbm, 223, rfl⟩
abbrev main_call5_v13 : Ref sig .tc := ⟨.hbm, 224, rfl⟩
abbrev main_call5_v14 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_v111 : Ref sig .tc := ⟨.hbm, 230, rfl⟩
abbrev main_v112 : Ref sig .tc := ⟨.hbm, 231, rfl⟩
abbrev main_v113 : Ref sig .tc := ⟨.hbm, 232, rfl⟩
abbrev main_v114 : Ref sig .tc := ⟨.hbm, 233, rfl⟩
abbrev main_v115 : Ref sig .tc := ⟨.hbm, 234, rfl⟩
abbrev main_v116 : Ref sig .tc := ⟨.hbm, 235, rfl⟩
abbrev main_v117 : Ref sig .tc := ⟨.hbm, 236, rfl⟩
abbrev main_call6_cst : Ref sig .tc := ⟨.hbm, 237, rfl⟩
abbrev main_call6_v0 : Ref sig .tc := ⟨.hbm, 238, rfl⟩
abbrev main_v118 : Ref sig .tc := ⟨.hbm, 239, rfl⟩
abbrev main_v119 : Ref sig .tc := ⟨.hbm, 240, rfl⟩
abbrev main_cst_18 : Ref sig .tc := ⟨.hbm, 241, rfl⟩
abbrev main_v120 : Ref sig .tc := ⟨.hbm, 242, rfl⟩
abbrev main_v121 : Ref sig .tc := ⟨.hbm, 243, rfl⟩
abbrev main_cst_19 : Ref sig .tc := ⟨.hbm, 244, rfl⟩
abbrev main_v122 : Ref sig .tc := ⟨.hbm, 245, rfl⟩
abbrev main_v123 : Ref sig .tc := ⟨.hbm, 246, rfl⟩
abbrev main_c_20 : Ref sig .tc := ⟨.hbm, 247, rfl⟩
abbrev main_call7_cst : Ref sig .tc := ⟨.hbm, 248, rfl⟩
abbrev main_call7_v0 : Ref sig .tc := ⟨.hbm, 249, rfl⟩
abbrev main_call7_v1 : Ref sig .tc := ⟨.hbm, 250, rfl⟩
abbrev main_call7_cst_0 : Ref sig .tc := ⟨.hbm, 251, rfl⟩
abbrev main_call7_v2 : Ref sig .tc := ⟨.hbm, 252, rfl⟩
abbrev main_call7_v3 : Ref sig .tc := ⟨.hbm, 253, rfl⟩
abbrev main_call7_v4 : Ref sig .tc := ⟨.hbm, 254, rfl⟩
abbrev main_call7_v5 : Ref sig .tc := ⟨.hbm, 255, rfl⟩
abbrev main_call7_v6 : Ref sig .tc := ⟨.hbm, 256, rfl⟩
abbrev main_call7_v7 : Ref sig .tc := ⟨.hbm, 257, rfl⟩
abbrev main_call7_cst_1 : Ref sig .tc := ⟨.hbm, 258, rfl⟩
abbrev main_call7_v8 : Ref sig .tc := ⟨.hbm, 259, rfl⟩
abbrev main_call7_cst_2 : Ref sig .tc := ⟨.hbm, 260, rfl⟩
abbrev main_call7_v9 : Ref sig .tc := ⟨.hbm, 261, rfl⟩
abbrev main_call7_v10 : Ref sig .tc := ⟨.hbm, 262, rfl⟩
abbrev main_call7_v11 : Ref sig .tc := ⟨.hbm, 263, rfl⟩
abbrev main_call7_v12 : Ref sig .tc := ⟨.hbm, 264, rfl⟩
abbrev main_call7_cst_3 : Ref sig .tc := ⟨.hbm, 265, rfl⟩
abbrev main_call7_v13 : Ref sig .tc := ⟨.hbm, 266, rfl⟩
abbrev main_call7_cst_4 : Ref sig .tc := ⟨.hbm, 267, rfl⟩
abbrev main_call7_call0_v0 : Ref sig .tc := ⟨.hbm, 268, rfl⟩
abbrev main_call7_call0_v1 : Ref sig .tc := ⟨.hbm, 269, rfl⟩
abbrev main_v124 : Ref sig .tc := ⟨.hbm, 270, rfl⟩
abbrev main_v125 : Ref sig .tc := ⟨.hbm, 271, rfl⟩
abbrev main_v126 : Ref sig .tc := ⟨.hbm, 272, rfl⟩
abbrev main_cst_21 : Ref sig .tc := ⟨.hbm, 273, rfl⟩
abbrev main_v127 : Ref sig .tc := ⟨.hbm, 274, rfl⟩
abbrev main_v128 : Ref sig .tc := ⟨.hbm, 275, rfl⟩
abbrev main_v129 : Ref sig .tc := ⟨.hbm, 276, rfl⟩
abbrev main_v130 : Ref sig .tc := ⟨.hbm, 277, rfl⟩
abbrev main_v131 : Ref sig .tc := ⟨.hbm, 278, rfl⟩
abbrev main_v132 : Ref sig .tc := ⟨.hbm, 279, rfl⟩
abbrev main_v133 : Ref sig .tc := ⟨.hbm, 280, rfl⟩
abbrev main_v134 : Ref sig .tc := ⟨.hbm, 281, rfl⟩
abbrev main_v135 : Ref sig .tc := ⟨.hbm, 282, rfl⟩
abbrev main_v136 : Ref sig .tc := ⟨.hbm, 283, rfl⟩
abbrev main_v137 : Ref sig .tc := ⟨.hbm, 284, rfl⟩
abbrev main_v138 : Ref sig .tc := ⟨.hbm, 285, rfl⟩
abbrev main_v139 : Ref sig .tc := ⟨.hbm, 286, rfl⟩
abbrev main_v140 : Ref sig .tc := ⟨.hbm, 287, rfl⟩
abbrev main_v141 : Ref sig .tc := ⟨.hbm, 288, rfl⟩
abbrev main_v142 : Ref sig .tc := ⟨.hbm, 289, rfl⟩
abbrev main_v143 : Ref sig .tc := ⟨.hbm, 290, rfl⟩
abbrev main_cst_22 : Ref sig .tc := ⟨.hbm, 291, rfl⟩
abbrev main_v144 : Ref sig .tc := ⟨.hbm, 292, rfl⟩
abbrev main_v145 : Ref sig .tc := ⟨.hbm, 293, rfl⟩
abbrev main_v146 : Ref sig .tc := ⟨.hbm, 294, rfl⟩
abbrev main_cst_23 : Ref sig .tc := ⟨.hbm, 295, rfl⟩
abbrev main_v147 : Ref sig .tc := ⟨.hbm, 296, rfl⟩
abbrev main_v148 : Ref sig .tc := ⟨.hbm, 297, rfl⟩
abbrev main_v149 : Ref sig .tc := ⟨.hbm, 298, rfl⟩
abbrev main_cst_24 : Ref sig .tc := ⟨.hbm, 299, rfl⟩
abbrev main_v150 : Ref sig .tc := ⟨.hbm, 300, rfl⟩
abbrev main_v151 : Ref sig .tc := ⟨.hbm, 301, rfl⟩
abbrev main_cst_25 : Ref sig .tc := ⟨.hbm, 302, rfl⟩
abbrev main_v152 : Ref sig .tc := ⟨.hbm, 303, rfl⟩
abbrev main_v153 : Ref sig .tc := ⟨.hbm, 304, rfl⟩
abbrev main_v154 : Ref sig .tc := ⟨.hbm, 305, rfl⟩
abbrev main_v155 : Ref sig .tc := ⟨.hbm, 306, rfl⟩
abbrev main_v156 : Ref sig .tc := ⟨.hbm, 307, rfl⟩
abbrev main_v157 : Ref sig .tc := ⟨.hbm, 308, rfl⟩
abbrev main_v158 : Ref sig .tc := ⟨.hbm, 309, rfl⟩
abbrev main_v159 : Ref sig .tc := ⟨.hbm, 310, rfl⟩
abbrev main_cst_26 : Ref sig .tc := ⟨.hbm, 311, rfl⟩
abbrev main_v160 : Ref sig .tc := ⟨.hbm, 312, rfl⟩
abbrev main_v161 : Ref sig .tc := ⟨.hbm, 313, rfl⟩
abbrev main_cst_27 : Ref sig .tc := ⟨.hbm, 314, rfl⟩
abbrev main_v162 : Ref sig .tc := ⟨.hbm, 315, rfl⟩
abbrev main_v163 : Ref sig .tc := ⟨.hbm, 316, rfl⟩
abbrev main_c_28 : Ref sig .tc := ⟨.hbm, 317, rfl⟩
abbrev main_call8_cst : Ref sig .tc := ⟨.hbm, 318, rfl⟩
abbrev main_call8_v0 : Ref sig .tc := ⟨.hbm, 319, rfl⟩
abbrev main_call8_v1 : Ref sig .tc := ⟨.hbm, 320, rfl⟩
abbrev main_call8_cst_0 : Ref sig .tc := ⟨.hbm, 321, rfl⟩
abbrev main_call8_v2 : Ref sig .tc := ⟨.hbm, 322, rfl⟩
abbrev main_call8_v3 : Ref sig .tc := ⟨.hbm, 323, rfl⟩
abbrev main_call8_v4 : Ref sig .tc := ⟨.hbm, 324, rfl⟩
abbrev main_call8_v5 : Ref sig .tc := ⟨.hbm, 325, rfl⟩
abbrev main_call8_v6 : Ref sig .tc := ⟨.hbm, 326, rfl⟩
abbrev main_call8_v7 : Ref sig .tc := ⟨.hbm, 327, rfl⟩
abbrev main_call8_cst_1 : Ref sig .tc := ⟨.hbm, 328, rfl⟩
abbrev main_call8_v8 : Ref sig .tc := ⟨.hbm, 329, rfl⟩
abbrev main_call8_cst_2 : Ref sig .tc := ⟨.hbm, 330, rfl⟩
abbrev main_call8_v9 : Ref sig .tc := ⟨.hbm, 331, rfl⟩
abbrev main_call8_v10 : Ref sig .tc := ⟨.hbm, 332, rfl⟩
abbrev main_call8_v11 : Ref sig .tc := ⟨.hbm, 333, rfl⟩
abbrev main_call8_v12 : Ref sig .tc := ⟨.hbm, 334, rfl⟩
abbrev main_call8_cst_3 : Ref sig .tc := ⟨.hbm, 335, rfl⟩
abbrev main_call8_v13 : Ref sig .tc := ⟨.hbm, 336, rfl⟩
abbrev main_call8_cst_4 : Ref sig .tc := ⟨.hbm, 337, rfl⟩
abbrev main_call8_call0_v0 : Ref sig .tc := ⟨.hbm, 338, rfl⟩
abbrev main_call8_call0_v1 : Ref sig .tc := ⟨.hbm, 339, rfl⟩
abbrev main_v164 : Ref sig .tc := ⟨.hbm, 340, rfl⟩
abbrev main_v165 : Ref sig .tc := ⟨.hbm, 341, rfl⟩
abbrev main_v166 : Ref sig .tc := ⟨.hbm, 342, rfl⟩
abbrev main_cst_29 : Ref sig .tc := ⟨.hbm, 343, rfl⟩
abbrev main_v167 : Ref sig .tc := ⟨.hbm, 344, rfl⟩
abbrev main_v168 : Ref sig .tc := ⟨.hbm, 345, rfl⟩
abbrev main_v169 : Ref sig .tc := ⟨.hbm, 346, rfl⟩
abbrev main_v170 : Ref sig .tc := ⟨.hbm, 347, rfl⟩
abbrev main_v171 : Ref sig .tc := ⟨.hbm, 348, rfl⟩
abbrev main_v172 : Ref sig .tc := ⟨.hbm, 349, rfl⟩
abbrev main_v173 : Ref sig .tc := ⟨.hbm, 350, rfl⟩
abbrev main_v174 : Ref sig .tc := ⟨.hbm, 351, rfl⟩
abbrev main_v175 : Ref sig .tc := ⟨.hbm, 352, rfl⟩
abbrev main_v176 : Ref sig .tc := ⟨.hbm, 353, rfl⟩
abbrev main_v177 : Ref sig .tc := ⟨.hbm, 354, rfl⟩
abbrev main_cst_30 : Ref sig .tc := ⟨.hbm, 355, rfl⟩
abbrev main_v178 : Ref sig .tc := ⟨.hbm, 356, rfl⟩
abbrev main_cst_31 : Ref sig .tc := ⟨.hbm, 357, rfl⟩
abbrev main_v179 : Ref sig .tc := ⟨.hbm, 358, rfl⟩
abbrev main_v180 : Ref sig .tc := ⟨.hbm, 359, rfl⟩
abbrev main_v181 : Ref sig .tc := ⟨.hbm, 360, rfl⟩
abbrev main_v182 : Ref sig .tc := ⟨.hbm, 361, rfl⟩
abbrev main_v183 : Ref sig .tc := ⟨.hbm, 362, rfl⟩
abbrev main_v184 : Ref sig .tc := ⟨.hbm, 363, rfl⟩
abbrev main_v185 : Ref sig .tc := ⟨.hbm, 364, rfl⟩
abbrev main_v186 : Ref sig .tc := ⟨.hbm, 365, rfl⟩
abbrev main_v187 : Ref sig .tc := ⟨.hbm, 366, rfl⟩
abbrev main_v188 : Ref sig .tc := ⟨.hbm, 367, rfl⟩
abbrev main_cst_32 : Ref sig .tc := ⟨.hbm, 368, rfl⟩
abbrev main_v189 : Ref sig .tc := ⟨.hbm, 369, rfl⟩
abbrev main_v190 : Ref sig .tc := ⟨.hbm, 370, rfl⟩
abbrev main_v191 : Ref sig .tc := ⟨.hbm, 371, rfl⟩
abbrev main_cst_33 : Ref sig .tc := ⟨.hbm, 372, rfl⟩
abbrev main_v192 : Ref sig .tc := ⟨.hbm, 373, rfl⟩
abbrev main_v193 : Ref sig .tc := ⟨.hbm, 374, rfl⟩
abbrev main_v194 : Ref sig .tc := ⟨.hbm, 375, rfl⟩
abbrev main_cst_34 : Ref sig .tc := ⟨.hbm, 376, rfl⟩
abbrev main_v195 : Ref sig .tc := ⟨.hbm, 377, rfl⟩
abbrev main_v196 : Ref sig .tc := ⟨.hbm, 378, rfl⟩
abbrev main_cst_35 : Ref sig .tc := ⟨.hbm, 379, rfl⟩
abbrev main_v197 : Ref sig .tc := ⟨.hbm, 380, rfl⟩
abbrev main_v198 : Ref sig .tc := ⟨.hbm, 381, rfl⟩
abbrev main_v199 : Ref sig .tc := ⟨.hbm, 382, rfl⟩
abbrev main_v200 : Ref sig .tc := ⟨.hbm, 383, rfl⟩
abbrev main_v201 : Ref sig .tc := ⟨.hbm, 384, rfl⟩
abbrev main_v202 : Ref sig .tc := ⟨.hbm, 385, rfl⟩
abbrev main_v203 : Ref sig .tc := ⟨.hbm, 386, rfl⟩
abbrev main_v204 : Ref sig .tc := ⟨.hbm, 387, rfl⟩

abbrev nD : Nat := 1
abbrev τ : Topo := Topo.v7x

variable {F : FTy → Type} [FloatOps F]
-- ==== Proof.KRun.lean ====
/-
  The kernel's run, from the launch to the end, with the contents of its arrays at each stage.
-/
module

public import proofs.«01_k».proof.Proof.Gen.KernelIdeal.Frame

@[expose] public section

set_option maxRecDepth 16384

noncomputable section

namespace Cert.KernelIdeal.Graphs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ) (ρ : Dev nD → PrngReg)

/-- The run of the whole program, read at its result array: what the last host stretch leaves there. -/
theorem run : θ_run defs (onTc (τ := τ) (main (F := F))) ⟨m, fun _ => 0, ρ⟩ fun r => ∀ c : Dev nD,
      r.2.mem ((c.tc : Thread nD τ).loc main_v24) = W5 m ρ c (Proc.devRef .tc main_v24) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c => h c _ (mem_uc main_v24 (by decide)))

end Cert.KernelIdeal.Graphs

end

end
-- ==== Proof.Spec.lean ====
/-
  The mathematics of ONE graph of 64 nodes with 32 features, over the extended reals, that both the kernel and the
  reference are read down to: the learnt adjacency (scores, threshold at the eighth greatest of a row, softmax over
  what passes), the graph convolution, the layer normalisation, the feed-forward block, the mean over the nodes and
  the decoder. The lemmas compare the two programs' spellings of one stage.
-/
module

public import Idealize.ShloMosaic.Lib.Pointwise
public import Idealize.ShloMosaic.Lib.SortFacts

@[expose] public section

set_option maxRecDepth 16384

noncomputable section

namespace Cert.Graph

open Idealize.ShloMosaic

/-! ### A row of scores: its maximum, the values below a bound, the eighth greatest -/

/-- The greatest of a row's 64 entries. -/
def rowMax (r : Fin 64 → EReal) : EReal := Finset.univ.fold max ⊥ r

/-- No entry exceeds the row's maximum. -/
theorem le_rowMax (r : Fin 64 → EReal) (j : Fin 64) : r j ≤ rowMax r :=
  (Finset.le_fold_max _).2 (Or.inr ⟨j, Finset.mem_univ j, le_rfl⟩)

/-- A bound of all entries bounds the maximum. -/
theorem rowMax_le (r : Fin 64 → EReal) (b : EReal) (h : ∀ j, r j ≤ b) : rowMax r ≤ b :=
  (Finset.fold_max_le _).2 ⟨bot_le, fun j _ => h j⟩

/-- The maximum is attained. -/
theorem exists_eq_rowMax (r : Fin 64 → EReal) : ∃ j, r j = rowMax r := by
  obtain ⟨j, hj⟩ := Finite.exists_max r
  exact ⟨j, le_antisymm (le_rowMax r j) (rowMax_le r _ hj)⟩

/-- The greatest entry strictly below `m`. -/
def below (r : Fin 64 → EReal) (m : EReal) : EReal := rowMax fun j => if m ≤ r j then ⊥ else r j

/-- The kernel's threshold: the maximum, then seven times the greatest entry strictly below. -/
def thr (r : Fin 64 → EReal) : EReal :=
  below r (below r (below r (below r (below r (below r (below r (rowMax r)))))))

/-- The row in descending order (ties in order of position). -/
def sorted (r : Fin 64 → EReal) (k : Fin 64) : EReal :=
  r (sortedFrom (fun a b => Ideal.cmp .ogt (r a) (r b) == 1#1) k)

/-- "Greater" as the comparison's bit. -/
theorem cmp_ogt_beq (x y : EReal) : (Ideal.cmp .ogt x y == 1#1) = decide (y < x) := by
  by_cases h : y < x <;> simp [Ideal.cmp, h]

/-- The sorted row descends. -/
theorem sorted_anti (r : Fin 64 → EReal) {i j : Fin 64} (h : i ≤ j) : sorted r j ≤ sorted r i := by
  rcases eq_or_lt_of_le h with rfl | hij
  · exact le_rfl
  · have : (Ideal.cmp .ogt (sorted r j) (sorted r i) == 1#1) = false :=
      sortedFrom_noInversion (fun a b => Ideal.cmp .ogt (r a) (r b) == 1#1)
        (fun a b => Ideal.cmp .ogt (r a) (r b) == 1#1)
        (by intro a b hab; simp only [cmp_ogt_beq, decide_eq_true_eq, decide_eq_false_iff_not, not_lt] at *; exact hab.le)
        (fun _ _ h => h)
        (by intro a b c h1 h2; simp only [cmp_ogt_beq, decide_eq_false_iff_not, not_lt] at *; exact h1.trans h2)
        i j hij
    rw [cmp_ogt_beq, decide_eq_false_iff_not, not_lt] at this
    exact this

/-- Every entry stands somewhere in the sorted row. -/
theorem exists_sorted (r : Fin 64 → EReal) (j : Fin 64) : ∃ k, sorted r k = r j := by
  obtain ⟨k, hk⟩ := sortedFrom_surjective (fun a b => Ideal.cmp .ogt (r a) (r b) == 1#1) j
  exact ⟨k, congrArg r hk⟩

/-- Every sorted entry is an entry of the row. -/
theorem sorted_mem (r : Fin 64 → EReal) (k : Fin 64) : ∃ j, r j = sorted r k := ⟨_, rfl⟩

/-- The maximum is the first of the sorted row. -/
theorem rowMax_eq (r : Fin 64 → EReal) : rowMax r = sorted r 0 := by
  refine le_antisymm (rowMax_le r _ fun j => ?_) (le_rowMax r _)
  obtain ⟨k, hk⟩ := exists_sorted r j
  exact hk ▸ sorted_anti r (Fin.zero_le k)

/-- One round: strictly below the `i`-th of the sorted row comes the next one, if it differs. -/
theorem below_sorted (r : Fin 64 → EReal) (i j : Fin 64) (hij : j.val = i.val + 1) (h : sorted r j < sorted r i) :
    below r (sorted r i) = sorted r j := by
  refine le_antisymm (rowMax_le _ _ fun l => ?_) ?_
  · by_cases hl : sorted r i ≤ r l
    · simp only [if_pos hl]; exact bot_le
    · simp only [if_neg hl]
      obtain ⟨k, hk⟩ := exists_sorted r l
      have hki : ¬ k ≤ i := fun hk' => hl (hk ▸ sorted_anti r hk')
      rw [← hk]
      exact sorted_anti r (by rw [Fin.le_def] at *; omega)
  · obtain ⟨l, hl⟩ := sorted_mem r j
    have := le_rowMax (fun j => if sorted r i ≤ r j then ⊥ else r j) l
    simp only [hl, if_neg (not_le.2 h)] at this
    exact this

/-- The first eight of the sorted row descend strictly. -/
def Distinct (r : Fin 64 → EReal) : Prop :=
  ∀ k : Fin 7, sorted r ⟨k.val + 1, by omega⟩ < sorted r ⟨k.val, by omega⟩

/-- Where the first eight differ the kernel's threshold is the eighth greatest entry. -/
theorem thr_eq (r : Fin 64 → EReal) (h : Distinct r) : thr r = sorted r 7 := by
  have e (i j : Fin 64) (k : Fin 7) (hi : i.val = k.val) (hj : j.val = k.val + 1) :
      below r (sorted r i) = sorted r j := by
    refine below_sorted r i j (by omega) ?_
    have := h k
    rwa [show (⟨k.val + 1, by omega⟩ : Fin 64) = j from Fin.ext hj.symm,
      show (⟨k.val, by omega⟩ : Fin 64) = i from Fin.ext hi.symm] at this
  unfold thr
  rw [rowMax_eq, e 0 1 0 rfl rfl, e 1 2 1 rfl rfl, e 2 3 2 rfl rfl, e 3 4 3 rfl rfl, e 4 5 4 rfl rfl,
    e 5 6 5 rfl rfl, e 6 7 6 rfl rfl]

/-! ### The softmax over what passes the threshold -/

/-- The weight of entry `j`: the exponential of its distance to the maximum where it passes `t`, nothing elsewhere. -/
def wgt (r : Fin 64 → EReal) (t : EReal) (j : Fin 64) : EReal := if t ≤ r j then Ideal.exp (r j - rowMax r) else 0

/-- The weights divided by their sum. -/
def attn (r : Fin 64 → EReal) (t : EReal) (j : Fin 64) : EReal := Ideal.div (wgt r t j) (∑ k, wgt r t k)

/-- The row with `-∞` where the threshold is not passed. -/
def masked (r : Fin 64 → EReal) (t : EReal) (j : Fin 64) : EReal := if t ≤ r j then r j else ⊥

/-- Masking below an entry does not change the maximum. -/
theorem rowMax_masked (r : Fin 64 → EReal) (t : EReal) (h : t ≤ rowMax r) : rowMax (masked r t) = rowMax r := by
  refine le_antisymm (rowMax_le _ _ fun j => ?_) ?_
  · unfold masked; split
    · exact le_rowMax r j
    · exact bot_le
  · obtain ⟨j, hj⟩ := exists_eq_rowMax r
    have := le_rowMax (masked r t) j
    unfold masked at this
    rw [hj, if_pos h] at this
    exact this

/-- The masked row's softmax weight is the weight with nothing where the threshold is not passed. -/
theorem exp_masked (r : Fin 64 → EReal) (t : EReal) (h : t ≤ rowMax r) (j : Fin 64) :
    Ideal.exp (masked r t j - max ⊥ (rowMax (masked r t))) = wgt r t j := by
  rw [rowMax_masked r t h, max_eq_right bot_le]
  unfold wgt masked
  split
  · rfl
  · rw [sub_eq_add_neg, EReal.bot_add]; rfl

/-! ### The graph convolution with its residual -/

/-- The scores of the nodes of one graph: inner products of the two projections of features plus position, times the
    inverse of the root of 32. -/
def score (h e : Fin 64 → Fin 32 → EReal) (wq wk : Fin 32 → Fin 32 → EReal) (i j : Fin 64) : EReal :=
  (∑ d, (∑ k, (h i k + e i k) * wq k d) * (∑ k, (h j k + e j k) * wk k d)) * (((Real.sqrt 32)⁻¹ : ℝ) : EReal)

/-- One graph convolution: the neighbours' part (the diagonal left out), the node's own part, the bias; what is
    positive of it is added to the features. -/
def conv (h : Fin 64 → Fin 32 → EReal) (a : Fin 64 → Fin 64 → EReal) (w ws : Fin 32 → Fin 32 → EReal)
    (b : Fin 32 → EReal) (i : Fin 64) (c : Fin 32) : EReal :=
  h i c + max ((∑ j, (if i = j then 0 else a i j) * ∑ k, h j k * w k c) + a i i * (∑ k, h i k * ws k c) + b c) 0

/-- A sum of which only the diagonal entry is kept is that entry. -/
theorem sum_diag (a : Fin 64 → EReal) (i : Fin 64) : (∑ j, if i = j then a j else 0) = a i := by
  rw [Finset.sum_ite_eq]; simp

/-- Multiplying by one minus the diagonal's indicator leaves the diagonal out. -/
theorem mul_one_sub_diag (x : EReal) (p : Prop) [Decidable p] :
    x * (1 - if p then (1 : EReal) else 0) = if p then 0 else x := by
  by_cases h : p
  · rw [if_pos h, if_pos h]
    have : (1 : EReal) - 1 = 0 := EReal.sub_self (by decide) (by decide)
    rw [this, mul_zero]
  · rw [if_neg h, if_neg h, sub_zero, mul_one]

/-! ### The layer normalisation -/

/-- The word of 32 as an extended real. -/
theorem ofBits_32 : Ideal.ofBits .f32 0x42000000#32 = ((32 : ℝ) : EReal) := by
  simp [Ideal.ofBits, Ideal.ieee, -EReal.coe_mul]; norm_num

/-- The word of −∞ as an extended real. -/
theorem ofBits_negInf : Ideal.ofBits .f32 0xFF800000#32 = ⊥ := by
  simp [Ideal.ofBits, Ideal.ieee]

/-- The word the layer normalisation adds to the variance is a positive number. -/
theorem ofBits_eps_pos : 0 < Ideal.ofBits .f32 0x3727C5AC#32 := by
  simp [Ideal.ofBits, Ideal.ieee, -EReal.coe_mul]

/-- The mean of 32 features. -/
def mean (z : Fin 32 → EReal) : EReal := Ideal.div (∑ c, z c) (Ideal.ofBits .f32 0x42000000#32)

/-- The variance of 32 features. -/
def var (z : Fin 32 → EReal) : EReal :=
  Ideal.div (∑ c, (z c - mean z) * (z c - mean z)) (Ideal.ofBits .f32 0x42000000#32)

/-- The layer normalisation with gain and bias. -/
def norm (z g b : Fin 32 → EReal) (c : Fin 32) : EReal :=
  (z c - mean z) * Ideal.rsqrt (var z + Ideal.ofBits .f32 0x3727C5AC#32) * g c + b c

/-- A square is not negative. -/
theorem mul_self_nonneg' (x : EReal) : 0 ≤ x * x := by
  rcases le_total 0 x with h | h
  · exact mul_nonneg h h
  · have := mul_nonneg (EReal.neg_nonneg.2 h) (EReal.neg_nonneg.2 h)
    rwa [neg_mul_neg] at this

/-- The variance is not negative. -/
theorem var_nonneg (z : Fin 32 → EReal) : 0 ≤ var z := by
  unfold var
  rw [ofBits_32, Ideal.div_coe (by norm_num)]
  exact mul_nonneg (Finset.sum_nonneg fun c _ => mul_self_nonneg' _) (EReal.coe_nonneg.2 (by norm_num))

/-- Dividing by the root of a positive number is multiplying by the reciprocal root. -/
theorem div_sqrt (x y : EReal) (h : 0 < y) : Ideal.div x (Ideal.sqrt y) = x * Ideal.rsqrt y := by
  induction y with
  | bot => exact absurd h (by simp)
  | top =>
    show Ideal.div x ⊤ = x * 0
    rw [Ideal.div, if_neg (by decide), EReal.inv_top]
  | coe r =>
    have hr : 0 < r := EReal.coe_pos.1 h
    have hs : (Real.sqrt r) ≠ 0 := (Real.sqrt_pos.2 hr).ne'
    have e1 : Ideal.sqrt (r : EReal) = ((Real.sqrt r : ℝ) : EReal) := if_neg (not_lt.2 hr.le)
    have e2 : Ideal.rsqrt (r : EReal) = (((Real.sqrt r)⁻¹ : ℝ) : EReal) :=
      (if_neg (not_lt.2 hr.le)).trans (if_neg hr.ne')
    rw [e1, e2, Ideal.div_coe hs, one_div]

/-- The reference's normalisation, which divides by the root, is the kernel's. -/
theorem norm_div (z g b : Fin 32 → EReal) (c : Fin 32) :
    Ideal.div (z c - mean z) (Ideal.sqrt (var z + Ideal.ofBits .f32 0x3727C5AC#32)) * g c + b c = norm z g b c := by
  rw [div_sqrt _ _ (lt_of_lt_of_le ofBits_eps_pos (le_add_of_nonneg_left (var_nonneg z)))]
  rfl

/-- Dividing by the root of 32 is multiplying by its inverse. -/
theorem div_sqrt_32 (x : EReal) :
    Ideal.div x (Ideal.sqrt (Ideal.ofBits .f32 0x42000000#32)) = x * (((Real.sqrt 32)⁻¹ : ℝ) : EReal) := by
  have hs : (Real.sqrt 32) ≠ 0 := (Real.sqrt_pos.2 (by norm_num)).ne'
  have e1 : Ideal.sqrt ((32 : ℝ) : EReal) = ((Real.sqrt 32 : ℝ) : EReal) := if_neg (by norm_num)
  rw [ofBits_32, e1, Ideal.div_coe hs, one_div]

/-! ### One layer, the feed-forward block, the head, the decoder -/

/-- One layer of the network on one graph. -/
def layer (h e : Fin 64 → Fin 32 → EReal) (wq wk w ws : Fin 32 → Fin 32 → EReal) (b lg lb : Fin 32 → EReal)
    (i : Fin 64) : Fin 32 → EReal :=
  norm (conv h (fun i => attn (score h e wq wk i) (thr (score h e wq wk i))) w ws b i) lg lb

/-- The gelu activation in its form with the hyperbolic tangent. -/
def gelu (a : EReal) : EReal :=
  a * (Ideal.ofBits .f32 0x3F000000#32 *
    (1 + Ideal.tanh (Ideal.ofBits .f32 0x3F4C422A#32 * (a + Ideal.ofBits .f32 0x3D372713#32 * (a * a * a)))))

/-- The feed-forward block with its residual, at one node. -/
def ffn (z : Fin 32 → EReal) (w1 : Fin 32 → Fin 128 → EReal) (b1 : Fin 128 → EReal) (w2 : Fin 128 → Fin 32 → EReal)
    (b2 : Fin 32 → EReal) (c : Fin 32) : EReal :=
  z c + ((∑ k, gelu ((∑ d, z d * w1 d k) + b1 k) * w2 k c) + b2 c)

/-- A graph's 32 outputs: the hyperbolic tangent of the mean over the nodes. -/
def head (z : Fin 64 → Fin 32 → EReal) (c : Fin 32) : EReal :=
  Ideal.tanh (Ideal.div (∑ i, z i c) (Ideal.ofBits .f32 0x42800000#32))

/-- The input projection of one graph's nodes. -/
def proj (x : Fin 64 → Fin 64 → EReal) (w : Fin 64 → Fin 32 → EReal) (b : Fin 32 → EReal) (i : Fin 64) (c : Fin 32) :
    EReal :=
  (∑ k, x i k * w k c) + b c

/-- The decoder of one batch entry's 2048 features. -/
def decode (u : Fin 2048 → EReal) (w1 : Fin 2048 → Fin 32 → EReal) (b1 : Fin 32 → EReal) (w2 : Fin 32 → EReal)
    (b2 : EReal) : EReal :=
  (∑ k, gelu ((∑ d, u d * w1 d k) + b1 k) * w2 k) + b2

end Cert.Graph

end

end
-- ==== Proof.Net.lean ====
/-
  The whole network on one graph, and the decoder, composed from the stages of `Spec`; the weights as one
  structure.
-/
module

public import proofs.«01_k».proof.Proof.Spec

@[expose] public section

noncomputable section

namespace Cert.Graph

open Idealize.ShloMosaic

/-- The weights the network uses on every graph. -/
structure Weights where
  /-- the input projection and its bias -/
  w0 : Fin 64 → Fin 32 → EReal
  b0 : Fin 32 → EReal
  /-- the first layer: position, query, key, neighbour and self weights, bias, norm's scale and shift -/
  e1 : Fin 64 → Fin 32 → EReal
  q1 : Fin 32 → Fin 32 → EReal
  k1 : Fin 32 → Fin 32 → EReal
  g1 : Fin 32 → Fin 32 → EReal
  s1 : Fin 32 → Fin 32 → EReal
  c1 : Fin 32 → EReal
  l1 : Fin 32 → EReal
  m1 : Fin 32 → EReal
  /-- the second layer, likewise -/
  e2 : Fin 64 → Fin 32 → EReal
  q2 : Fin 32 → Fin 32 → EReal
  k2 : Fin 32 → Fin 32 → EReal
  g2 : Fin 32 → Fin 32 → EReal
  s2 : Fin 32 → Fin 32 → EReal
  c2 : Fin 32 → EReal
  l2 : Fin 32 → EReal
  m2 : Fin 32 → EReal
  /-- the feed-forward block -/
  w1 : Fin 32 → Fin 128 → EReal
  b1 : Fin 128 → EReal
  w2 : Fin 128 → Fin 32 → EReal
  b2 : Fin 32 → EReal
  /-- the last norm's scale and shift -/
  lg : Fin 32 → EReal
  lb : Fin 32 → EReal

variable (W : Weights)

/-- The features of a graph's nodes after the input projection. -/
def h0 (x : Fin 64 → Fin 64 → EReal) : Fin 64 → Fin 32 → EReal := proj x W.w0 W.b0

/-- The scores of the first layer. -/
def s0 (x : Fin 64 → Fin 64 → EReal) : Fin 64 → Fin 64 → EReal := score (h0 W x) W.e1 W.q1 W.k1

/-- The features after the first layer. -/
def h1 (x : Fin 64 → Fin 64 → EReal) : Fin 64 → Fin 32 → EReal :=
  layer (h0 W x) W.e1 W.q1 W.k1 W.g1 W.s1 W.c1 W.l1 W.m1

/-- The scores of the second layer. -/
def s1 (x : Fin 64 → Fin 64 → EReal) : Fin 64 → Fin 64 → EReal := score (h1 W x) W.e2 W.q2 W.k2

/-- The features after the second layer. -/
def h2 (x : Fin 64 → Fin 64 → EReal) : Fin 64 → Fin 32 → EReal :=
  layer (h1 W x) W.e2 W.q2 W.k2 W.g2 W.s2 W.c2 W.l2 W.m2

/-- The features after the feed-forward block. -/
def h3 (x : Fin 64 → Fin 64 → EReal) (i : Fin 64) : Fin 32 → EReal := ffn (h2 W x i) W.w1 W.b1 W.w2 W.b2

/-- The network's 32 outputs on one graph. -/
def net (x : Fin 64 → Fin 64 → EReal) : Fin 32 → EReal := head fun i => norm (h3 W x i) W.lg W.lb

/-- The weights as the program's arguments hold them. -/
def weights (a3 : (⟨2, ![64, 32]⟩ : Shape).Idx → EReal) (a4 : (⟨1, ![32]⟩ : Shape).Idx → EReal)
    (a5 : (⟨2, ![64, 32]⟩ : Shape).Idx → EReal) (a6 a7 a8 a9 : (⟨2, ![32, 32]⟩ : Shape).Idx → EReal)
    (a10 a11 a12 : (⟨1, ![32]⟩ : Shape).Idx → EReal)
    (a13 : (⟨2, ![64, 32]⟩ : Shape).Idx → EReal) (a14 a15 a16 a17 : (⟨2, ![32, 32]⟩ : Shape).Idx → EReal)
    (a18 a19 a20 : (⟨1, ![32]⟩ : Shape).Idx → EReal)
    (a21 : (⟨2, ![32, 128]⟩ : Shape).Idx → EReal) (a22 : (⟨1, ![128]⟩ : Shape).Idx → EReal)
    (a23 : (⟨2, ![128, 32]⟩ : Shape).Idx → EReal) (a24 a25 a26 : (⟨1, ![32]⟩ : Shape).Idx → EReal) : Weights where
  w0 := fun k c => a3 (ix2 k c)
  b0 := fun c => a4 (ix1 c)
  e1 := fun l c => a5 (ix2 l c)
  q1 := fun k c => a6 (ix2 k c)
  k1 := fun k c => a7 (ix2 k c)
  g1 := fun k c => a8 (ix2 k c)
  s1 := fun k c => a9 (ix2 k c)
  c1 := fun c => a10 (ix1 c)
  l1 := fun c => a11 (ix1 c)
  m1 := fun c => a12 (ix1 c)
  e2 := fun l c => a13 (ix2 l c)
  q2 := fun k c => a14 (ix2 k c)
  k2 := fun k c => a15 (ix2 k c)
  g2 := fun k c => a16 (ix2 k c)
  s2 := fun k c => a17 (ix2 k c)
  c2 := fun c => a18 (ix1 c)
  l2 := fun c => a19 (ix1 c)
  m2 := fun c => a20 (ix1 c)
  w1 := fun d k => a21 (ix2 d k)
  b1 := fun k => a22 (ix1 k)
  w2 := fun k c => a23 (ix2 k c)
  b2 := fun c => a24 (ix1 c)
  lg := fun c => a25 (ix1 c)
  lb := fun c => a26 (ix1 c)

/-- Channel `ch` of batch row `s` of the input: 64 nodes of 64 features. -/
def graph (a0 : (⟨4, ![64, 64, 64, 64]⟩ : Shape).Idx → EReal) (s ch : Fin 64) : Fin 64 → Fin 64 → EReal :=
  fun i k => a0 (ix4 s i ch k)

/-- The answer for batch row `s`: the decoder on the 64 channels' outputs. -/
def answer (W : Weights) (a0 : (⟨4, ![64, 64, 64, 64]⟩ : Shape).Idx → EReal)
    (a27 : (⟨2, ![2048, 32]⟩ : Shape).Idx → EReal) (a28 : (⟨1, ![32]⟩ : Shape).Idx → EReal)
    (a29 : (⟨2, ![32, 1]⟩ : Shape).Idx → EReal) (a30 : (⟨1, ![1]⟩ : Shape).Idx → EReal) (s : Fin 64) : EReal :=
  decode (fun d => net W (graph a0 s ⟨d.val / 32, by omega⟩) ⟨d.val % 32, by omega⟩) (fun d k => a27 (ix2 d k))
    (fun k => a28 (ix1 k)) (fun k => a29 (ix2 k 0)) (a30 (ix1 0))

end Cert.Graph

end

end
-- ==== Proof.KBase.lean ====
/-
  Row numbers of a block of 256 graphs of 64 nodes, the two named constants, and the choice made by the diagonal
  mask.
-/
module

public import proofs.«01_k».proof.Proof.Gen.KernelIdeal.Skeleton
public import proofs.«01_k».proof.Proof.Spec

@[expose] public section

set_option maxRecDepth 16384

noncomputable section

namespace Cert.KernelIdeal.Graphs

open Idealize.ShloMosaic Idealize.ShloMosaic.TcCoe Idealize.SL.Sem Cert.KernelIdeal Cert.KernelIdeal.Gen

/-- The row of the flattened block that holds node `l` of graph `b`. -/
def row (b : Fin 256) (l : Fin 64) : Fin 16384 := ⟨b.val * 64 + l.val, by omega⟩

/-- The graph of a row. -/
theorem row_div (b : Fin 256) (l : Fin 64) : (b.val * 64 + l.val) / 64 = b.val := by omega

/-- The node of a row. -/
theorem row_mod (b : Fin 256) (l : Fin 64) : (b.val * 64 + l.val) % 64 = l.val := by omega

/-- The masking constant stands for minus infinity. -/
theorem mask_bot : (Named.named κ "mask" (0xF149F2CA#32) : Ideal .f32) = (⊥ : EReal) := rfl

/-- The scale constant stands for one over the square root of 32. -/
theorem scale_val : (Named.named κ "scale" (0x3E3504F3#32) : Ideal .f32) = (((Real.sqrt 32)⁻¹ : ℝ) : EReal) := by
  simp [Named.named, κ]

/-- Choosing by the bit that compares two node numbers is choosing by whether the nodes are the same. -/
theorem select_eye {α : Type} (i j : Fin 64) (x y : α) :
    Scalar.select (IntOp.cmpi .eq (BitVec.ofNat 32 i.val) (BitVec.ofNat 32 j.val)) x y = if i = j then x else y := by
  have h : IntOp.cmpi .eq (BitVec.ofNat 32 i.val) (BitVec.ofNat 32 j.val) = if i = j then 1#1 else 0#1 := by
    revert i j; decide +kernel
  rw [h]
  by_cases e : i = j <;> simp [e, Scalar.select]

end Cert.KernelIdeal.Graphs

end

end
-- ==== Proof.KPayA.lean ====
/-
  Entries of the first call's values: the input projection and the first layer.
-/
module

public import proofs.«01_k».proof.Proof.KBase
public import Idealize.ShloMosaic.Lib.Pointwise

@[expose] public section

set_option maxRecDepth 16384

noncomputable section

namespace Cert.KernelIdeal.Graphs

open Idealize.ShloMosaic Idealize.ShloMosaic.TcCoe Idealize.SL.Sem Cert.KernelIdeal Cert.KernelIdeal.Gen

/-- Graph `b` of a block made of four arrays of 64 graphs each. -/
def pick (v0 v2 v4 v6 : FVec Ideal S64x64x64 .f32) (b : Fin 256) (i k : Fin 64) : EReal :=
  if h : b.val < 64 then v0 (ix3 ⟨b.val, h⟩ i k)
  else if h' : b.val - 64 < 64 then v2 (ix3 ⟨b.val - 64, h'⟩ i k)
  else if h'' : b.val - 64 - 64 < 64 then v4 (ix3 ⟨b.val - 64 - 64, h''⟩ i k)
  else v6 (ix3 ⟨b.val - 64 - 64 - 64, by omega⟩ i k)

/-- The projected node features of the block. -/
theorem pay2_at (v0 v2 v4 v6 : FVec Ideal S64x64x64 .f32) (v10 : FVec Ideal S64x32 .f32) (v12 : FVec Ideal S1x32 .f32)
    (b : Fin 256) (l : Fin 64) (c : Fin 32) :
    k0_pay2 (F := Ideal) v0 v2 v4 v6 v10 v12 (ix2 (row b l) c) =
      Cert.Graph.proj (pick v0 v2 v4 v6 b) (fun k c => v10 (ix2 k c)) (fun c => v12 (ix2 0 c)) l c := by
  pointwise [k0_pay2, row, row_div, row_mod, Cert.Graph.proj, pick]

/-- The same features with one row for each graph. -/
theorem pay4_at (v0 v2 v4 v6 : FVec Ideal S64x64x64 .f32) (v10 : FVec Ideal S64x32 .f32) (v12 : FVec Ideal S1x32 .f32)
    (b : Fin 256) (l : Fin 64) (c : Fin 32) :
    k0_pay4 (F := Ideal) v0 v2 v4 v6 v10 v12 (ix3 b l c) =
      k0_pay2 (F := Ideal) v0 v2 v4 v6 v10 v12 (ix2 (row b l) c) := by
  pointwise [k0_pay4, row]

/-- The attention scores of the first layer. -/
theorem pay5_at (v0 v2 v4 v6 : FVec Ideal S64x64x64 .f32) (v10 : FVec Ideal S64x32 .f32) (v12 : FVec Ideal S1x32 .f32)
    (v21 : FVec Ideal S64x32 .f32) (v26 : FVec Ideal S32x64 .f32) (b : Fin 256) (i j : Fin 64)
    (H : Fin 64 → Fin 32 → EReal) (wq wk : Fin 32 → Fin 32 → EReal)
    (h : ∀ l c, k0_pay2 (F := Ideal) v0 v2 v4 v6 v10 v12 (ix2 (row b l) c) = H l c)
    (hq : ∀ k c : Fin 32, v26 (ix2 k ⟨c.val, by omega⟩) = wq k c)
    (hk : ∀ k c : Fin 32, v26 (ix2 k ⟨32 + c.val, by omega⟩) = wk k c) :
    k0_pay5 (F := Ideal) v0 v2 v4 v6 v10 v12 v21 v26 (ix3 b i j) =
      Cert.Graph.score H (fun l c => v21 (ix2 l c)) wq wk i j := by
  simp only [row] at h
  pointwise [k0_pay5, k0_pay4, row_div, row_mod, h, hq, hk, scale_val, Cert.Graph.score]

/-- The largest score of each row. -/
theorem pay6_at (s : FVec Ideal S256x64x64 .f32) (b : Fin 256) (i : Fin 64) :
    k0_pay6 (F := Ideal) s (ix3 b i 0) = Cert.Graph.rowMax fun j => s (ix3 b i j) := by
  pointwise [k0_pay6, Cert.Graph.rowMax, Cert.Graph.ofBits_negInf]

/-- The eighth largest distinct score of each row. -/
theorem pay7_at (s : FVec Ideal S256x64x64 .f32) (b : Fin 256) (i j : Fin 64) :
    k0_pay7 (F := Ideal) s (ix3 b i j) = Cert.Graph.thr fun j => s (ix3 b i j) := by
  pointwise [k0_pay7, k0_pay6, Cert.Graph.thr, Cert.Graph.below, Cert.Graph.rowMax, Cert.Graph.ofBits_negInf, mask_bot]

/-- The bit that says whether two nodes are the same. -/
theorem pay3_at (i j : Fin 64) :
    k0_pay3 (ix3 0 i j) = IntOp.cmpi .eq (BitVec.ofNat 32 i.val) (BitVec.ofNat 32 j.val) := by
  pointwise [k0_pay3]

/-- The graph convolution of the first layer. -/
theorem pay8_at (v15 : FVec Ideal S16384x32 .f32) (v19 : IVec S1x64x64 1) (v20 : FVec Ideal S256x64x32 .f32)
    (v34 : FVec Ideal S256x64x64 .f32) (v36 : FVec Ideal S256x64x1 .f32) (v79 : FVec Ideal S256x64x64 .f32)
    (v100 : Vec Ideal S32x64 .f32) (v110 : Vec Ideal S1x32 .f32) (b : Fin 256) (i : Fin 64) (c : Fin 32)
    (H : Fin 64 → Fin 32 → EReal) (s : Fin 64 → Fin 64 → EReal) (w ws : Fin 32 → Fin 32 → EReal)
    (h15 : ∀ l c, v15 (ix2 (row b l) c) = H l c)
    (h19 : ∀ i j, v19 (ix3 0 i j) = IntOp.cmpi .eq (BitVec.ofNat 32 i.val) (BitVec.ofNat 32 j.val))
    (h20 : ∀ l c, v20 (ix3 b l c) = H l c)
    (h34 : ∀ i j, v34 (ix3 b i j) = s i j)
    (h36 : ∀ i, v36 (ix3 b i 0) = Cert.Graph.rowMax (s i))
    (h79 : ∀ i j, v79 (ix3 b i j) = Cert.Graph.thr (s i))
    (hw : ∀ k c : Fin 32, v100 (ix2 k ⟨c.val, by omega⟩) = w k c)
    (hws : ∀ k c : Fin 32, v100 (ix2 k ⟨32 + c.val, by omega⟩) = ws k c) :
    k0_pay8 (F := Ideal) v15 v19 v20 v34 v36 v79 v100 v110 (ix2 (row b i) c) =
      Cert.Graph.conv H (fun i => Cert.Graph.attn (s i) (Cert.Graph.thr (s i))) w ws (fun c => v110 (ix2 0 c)) i c := by
  simp only [row] at h15
  pointwise [k0_pay8, row, row_div, row_mod, h15, h20, h34, h36, h79, hw, hws, h19, select_eye, Cert.Graph.sum_diag,
    Cert.Graph.conv, Cert.Graph.attn, Cert.Graph.wgt]

/-- The layer norm of the first layer. -/
theorem pay11_at (v118 : FVec Ideal S16384x32 .f32) (v120 v122 : FVec Ideal S1x32 .f32) (r : Fin 16384) (c : Fin 32) :
    k0_pay11 (F := Ideal) v118 v120 v122 (ix2 r c) =
      Cert.Graph.norm (fun c => v118 (ix2 r c)) (fun c => v120 (ix2 0 c)) (fun c => v122 (ix2 0 c)) c := by
  pointwise [k0_pay11, Cert.Graph.norm, Cert.Graph.mean, Cert.Graph.var]

/-- The normed features with one row for each graph. -/
theorem pay12_at (v118 : FVec Ideal S16384x32 .f32) (v120 v122 : FVec Ideal S1x32 .f32) (b : Fin 256) (l : Fin 64)
    (c : Fin 32) :
    k0_pay12 (F := Ideal) v118 v120 v122 (ix3 b l c) = k0_pay11 (F := Ideal) v118 v120 v122 (ix2 (row b l) c) := by
  pointwise [k0_pay12, row]

end Cert.KernelIdeal.Graphs

end

end
-- ==== Proof.KPayB.lean ====
/-
  Entries of the first call's values: the second layer.
-/
module

public import proofs.«01_k».proof.Proof.KBase
public import Idealize.ShloMosaic.Lib.Pointwise

@[expose] public section

set_option maxRecDepth 16384

noncomputable section

namespace Cert.KernelIdeal.Graphs

open Idealize.ShloMosaic Idealize.ShloMosaic.TcCoe Idealize.SL.Sem Cert.KernelIdeal Cert.KernelIdeal.Gen

/-- The attention scores of the second layer. -/
theorem pay13_at (v118 : FVec Ideal S16384x32 .f32) (v120 v122 : FVec Ideal S1x32 .f32) (v144 : Vec Ideal S64x32 .f32)
    (v149 : Vec Ideal S32x64 .f32) (b : Fin 256) (i j : Fin 64)
    (H : Fin 64 → Fin 32 → EReal) (wq wk : Fin 32 → Fin 32 → EReal)
    (h : ∀ l c, k0_pay11 (F := Ideal) v118 v120 v122 (ix2 (row b l) c) = H l c)
    (hq : ∀ k c : Fin 32, v149 (ix2 k ⟨c.val, by omega⟩) = wq k c)
    (hk : ∀ k c : Fin 32, v149 (ix2 k ⟨32 + c.val, by omega⟩) = wk k c) :
    k0_pay13 (F := Ideal) v118 v120 v122 v144 v149 (ix3 b i j) =
      Cert.Graph.score H (fun l c => v144 (ix2 l c)) wq wk i j := by
  simp only [row] at h
  pointwise [k0_pay13, k0_pay12, row_div, row_mod, h, hq, hk, scale_val, Cert.Graph.score]

/-- The attention weights of the second layer. -/
theorem pay16_at (v118 : FVec Ideal S16384x32 .f32) (v120 v122 : FVec Ideal S1x32 .f32) (v144 : Vec Ideal S64x32 .f32)
    (v149 : Vec Ideal S32x64 .f32) (b : Fin 256) (i j : Fin 64) (s : Fin 64 → Fin 64 → EReal)
    (h : ∀ i j, k0_pay13 (F := Ideal) v118 v120 v122 v144 v149 (ix3 b i j) = s i j) :
    k0_pay16 (F := Ideal) (k0_pay13 v118 v120 v122 v144 v149) (k0_pay14 v118 v120 v122 v144 v149)
      (k0_pay15 v118 v120 v122 v144 v149) (Named.named κ "mask" 0xF149F2CA#32) (ix3 b i j) =
      Cert.Graph.attn (s i) (Cert.Graph.thr (s i)) j := by
  pointwise [k0_pay16, k0_pay15, k0_pay14, h, Cert.Graph.attn, Cert.Graph.wgt, Cert.Graph.thr, Cert.Graph.below,
    Cert.Graph.rowMax, Cert.Graph.ofBits_negInf, mask_bot]

/-- The graph convolution of the second layer, less its mean over the channels. -/
theorem pay20_at (v19 : IVec S1x64x64 1) (v142 : FVec Ideal S16384x32 .f32) (v143 : FVec Ideal S256x64x32 .f32)
    (v212 : FVec Ideal S256x64x64 .f32) (v223 : Vec Ideal S32x64 .f32) (v233 : Vec Ideal S1x32 .f32)
    (b : Fin 256) (i : Fin 64) (c : Fin 32)
    (H : Fin 64 → Fin 32 → EReal) (a : Fin 64 → Fin 64 → EReal) (w ws : Fin 32 → Fin 32 → EReal)
    (h142 : ∀ l c, v142 (ix2 (row b l) c) = H l c)
    (h19 : ∀ i j, v19 (ix3 0 i j) = IntOp.cmpi .eq (BitVec.ofNat 32 i.val) (BitVec.ofNat 32 j.val))
    (h143 : ∀ l c, v143 (ix3 b l c) = H l c)
    (h212 : ∀ i j, v212 (ix3 b i j) = a i j)
    (hw : ∀ k c : Fin 32, v223 (ix2 k ⟨c.val, by omega⟩) = w k c)
    (hws : ∀ k c : Fin 32, v223 (ix2 k ⟨32 + c.val, by omega⟩) = ws k c) :
    k0_pay20 (F := Ideal) v19 v142 v143 v212 (Scalar.ofBits .f32 0x00000000#32) (k0_pay17 v19) v223 v233
      (ix2 (row b i) c) =
      Cert.Graph.conv H a w ws (fun c => v233 (ix2 0 c)) i c -
        Cert.Graph.mean (Cert.Graph.conv H a w ws (fun c => v233 (ix2 0 c)) i) := by
  simp only [row] at h142
  pointwise [k0_pay20, k0_pay17, row, row_div, row_mod, h142, h143, h212, hw, hws, h19, select_eye,
    Cert.Graph.sum_diag, Cert.Graph.conv, Cert.Graph.mean]

/-- The variance that goes with it. -/
theorem pay21_at (v19 : IVec S1x64x64 1) (v142 : FVec Ideal S16384x32 .f32) (v143 : FVec Ideal S256x64x32 .f32)
    (v212 : FVec Ideal S256x64x64 .f32) (v223 : Vec Ideal S32x64 .f32) (v233 : Vec Ideal S1x32 .f32)
    (z0 : Ideal .f32) (r : Fin 16384) (z : Fin 32 → EReal)
    (h : ∀ c, k0_pay20 (F := Ideal) v19 v142 v143 v212 z0 (k0_pay17 v19) v223 v233
      (ix2 r c) = z c - Cert.Graph.mean z) :
    k0_pay21 (F := Ideal) v19 v142 v143 v212 z0 (k0_pay17 v19) v223 v233
      (ix2 r 0) = Cert.Graph.var z := by
  pointwise [k0_pay21, h, Cert.Graph.var]

end Cert.KernelIdeal.Graphs

end

end
-- ==== Proof.KPayC.lean ====
/-
  Entries of the first call's values: the feed-forward block and the mean over the nodes; the decoder's result.
-/
module

public import proofs.«01_k».proof.Proof.KBase
public import Idealize.ShloMosaic.Lib.Pointwise

@[expose] public section

set_option maxRecDepth 16384

noncomputable section

namespace Cert.KernelIdeal.Graphs

open Idealize.ShloMosaic Idealize.ShloMosaic.TcCoe Idealize.SL.Sem Cert.KernelIdeal Cert.KernelIdeal.Gen

/-- The gelu activation with its cube associated to the right. -/
theorem gelu_eq (a : EReal) :
    a * (Ideal.ofBits .f32 0x3F000000#32 *
      (1 + Ideal.tanh (Ideal.ofBits .f32 0x3F4C422A#32 * (a + Ideal.ofBits .f32 0x3D372713#32 * (a * (a * a)))))) =
      Cert.Graph.gelu a := by
  rw [← mul_assoc a a a]; rfl

/-- The norm of the second layer and the feed-forward block after it. -/
theorem pay22_at (v243 v245 : FVec Ideal S1x32 .f32) (v251 : FVec Ideal S16384x32 .f32) (v256 : FVec Ideal S16384x1 .f32)
    (v266 : Vec Ideal S32x128 .f32) (v268 : Vec Ideal S1x128 .f32) (v285 : Vec Ideal S128x32 .f32)
    (v288 : Vec Ideal S1x32 .f32) (r : Fin 16384) (c : Fin 32) (z : Fin 32 → EReal)
    (h251 : ∀ c, v251 (ix2 r c) = z c - Cert.Graph.mean z)
    (h256 : v256 (ix2 r 0) = Cert.Graph.var z) :
    k0_pay22 (F := Ideal) v243 v245 v251 v256 v266 v268 v285 v288 (ix2 r c) =
      Cert.Graph.ffn (Cert.Graph.norm z (fun c => v243 (ix2 0 c)) (fun c => v245 (ix2 0 c)))
        (fun d k => v266 (ix2 d k)) (fun k => v268 (ix2 0 k)) (fun k c => v285 (ix2 k c)) (fun c => v288 (ix2 0 c)) c := by
  pointwise [k0_pay22, h251, h256, gelu_eq, Cert.Graph.ffn, Cert.Graph.norm]
  simp only [add_assoc]

/-- The sums over the channels after the feed-forward block. -/
theorem pay25_at (v243 v245 : FVec Ideal S1x32 .f32) (v251 : FVec Ideal S16384x32 .f32) (v256 : FVec Ideal S16384x1 .f32)
    (v266 : Vec Ideal S32x128 .f32) (v268 : Vec Ideal S1x128 .f32) (v285 : Vec Ideal S128x32 .f32)
    (v288 : Vec Ideal S1x32 .f32) (r : Fin 16384) :
    k0_pay25 (F := Ideal) v243 v245 v251 v256 v266 v268 v285 v288 (ix1 r) =
      ∑ c, k0_pay22 (F := Ideal) v243 v245 v251 v256 v266 v268 v285 v288 (ix2 r c) := by
  pointwise [k0_pay25]

/-- The last norm and the hyperbolic tangent of the mean over the nodes. -/
theorem pay26_at (v291 : FVec Ideal S16384x32 .f32) (v293 v295 : FVec Ideal S1x32 .f32) (v296 : FVec Ideal S16384 .f32)
    (b : Fin 256) (c : Fin 32) (z : Fin 64 → Fin 32 → EReal)
    (h291 : ∀ l c, v291 (ix2 (row b l) c) = z l c)
    (h296 : ∀ l, v296 (ix1 (row b l)) = ∑ c, z l c) :
    k0_pay26 (F := Ideal) v291 v293 v295 v296 (ix2 b c) =
      Cert.Graph.head (fun l => Cert.Graph.norm (z l) (fun c => v293 (ix2 0 c)) (fun c => v295 (ix2 0 c))) c := by
  simp only [row] at h291 h296
  pointwise [k0_pay26, h291, h296, Cert.Graph.head, Cert.Graph.norm, Cert.Graph.mean, Cert.Graph.var]

/-- The first 64 graphs' outputs. -/
theorem pay27_at (v291 : FVec Ideal S16384x32 .f32) (v293 v295 : FVec Ideal S1x32 .f32) (v296 : FVec Ideal S16384 .f32)
    (s : Fin 64) (c : Fin 32) :
    k0_pay27 (F := Ideal) v291 v293 v295 v296 (ix3 0 s c) =
      k0_pay26 (F := Ideal) v291 v293 v295 v296 (ix2 ⟨s.val, by omega⟩ c) := by
  pointwise [k0_pay27]

/-- The second 64 graphs' outputs. -/
theorem pay28_at (v291 : FVec Ideal S16384x32 .f32) (v293 v295 : FVec Ideal S1x32 .f32) (v296 : FVec Ideal S16384 .f32)
    (s : Fin 64) (c : Fin 32) :
    k0_pay28 (F := Ideal) v291 v293 v295 v296 (ix3 0 s c) =
      k0_pay26 (F := Ideal) v291 v293 v295 v296 (ix2 ⟨64 + s.val, by omega⟩ c) := by
  pointwise [k0_pay28]

/-- The third 64 graphs' outputs. -/
theorem pay29_at (v291 : FVec Ideal S16384x32 .f32) (v293 v295 : FVec Ideal S1x32 .f32) (v296 : FVec Ideal S16384 .f32)
    (s : Fin 64) (c : Fin 32) :
    k0_pay29 (F := Ideal) v291 v293 v295 v296 (ix3 0 s c) =
      k0_pay26 (F := Ideal) v291 v293 v295 v296 (ix2 ⟨128 + s.val, by omega⟩ c) := by
  pointwise [k0_pay29]

/-- The last 64 graphs' outputs. -/
theorem pay30_at (v291 : FVec Ideal S16384x32 .f32) (v293 v295 : FVec Ideal S1x32 .f32) (v296 : FVec Ideal S16384 .f32)
    (s : Fin 64) (c : Fin 32) :
    k0_pay1 (F := Ideal) (k0_pay30 v291 v293 v295 v296) (ix3 0 s c) =
      k0_pay26 (F := Ideal) v291 v293 v295 v296 (ix2 ⟨192 + s.val, by omega⟩ c) := by
  pointwise [k0_pay1, k0_pay30]

/-- The decoder. -/
theorem decoder_at (v0 : Vec Ideal S64x2048 .f32) (v2 : Vec Ideal S2048x32 .f32) (v4 v21 : Vec Ideal S1x32 .f32)
    (v27 : Vec Ideal S1x1 .f32) (s : Fin 64) (k : Fin 128) :
    k1_pay1 (F := Ideal) v0 v2 v4 v21 v27 (ix2 s k) =
      Cert.Graph.decode (fun d => v0 (ix2 s d)) (fun d k => v2 (ix2 d k)) (fun k => v4 (ix2 0 k))
        (fun k => v21 (ix2 0 k)) (v27 (ix2 0 0)) := by
  pointwise [k1_pay1, gelu_eq, Cert.Graph.decode]

end Cert.KernelIdeal.Graphs

end

end
-- ==== Proof.KGraph.lean ====
/-
  What one grid step of the first call stores: the network's output on each of the block's 256 graphs.
-/
module

public import proofs.«01_k».proof.Proof.Gen.KernelIdeal.Frame
public import proofs.«01_k».proof.Proof.Net
public import proofs.«01_k».proof.Proof.KPayA
public import proofs.«01_k».proof.Proof.KPayB
public import proofs.«01_k».proof.Proof.KPayC
public import Idealize.ShloMosaic.Lib.Pipeline.ValueKit.Tiles

@[expose] public section

set_option maxRecDepth 16384

noncomputable section

namespace Cert.KernelIdeal.Graphs

open Idealize.ShloMosaic Idealize.ShloMosaic.TcCoe Idealize.SL.Sem Cert.KernelIdeal Cert.KernelIdeal.Gen

variable (x0 : Vec Ideal S64x64x256 .f32) (x1 : Vec Ideal S64x32 .f32) (x2 : Vec Ideal S1x32 .f32)
  (x3 : Vec Ideal S64x32 .f32) (x4 x5 : Vec Ideal S32x64 .f32) (x6 x7 x8 : Vec Ideal S1x32 .f32)
  (x9 : Vec Ideal S64x32 .f32) (x10 x11 : Vec Ideal S32x64 .f32) (x12 x13 x14 : Vec Ideal S1x32 .f32)
  (x15 : Vec Ideal S32x128 .f32) (x16 : Vec Ideal S1x128 .f32) (x17 : Vec Ideal S128x32 .f32)
  (x18 x19 x20 : Vec Ideal S1x32 .f32)

/-- The weights as the kernel holds them: each pair of square matrices side by side in one array. -/
def wts : Cert.Graph.Weights where
  w0 := fun k c => x1 (ix2 k c)
  b0 := fun c => x2 (ix2 0 c)
  e1 := fun l c => x3 (ix2 l c)
  q1 := fun k c => x4 (ix2 k ⟨c.val, by omega⟩)
  k1 := fun k c => x4 (ix2 k ⟨32 + c.val, by omega⟩)
  g1 := fun k c => x5 (ix2 k ⟨c.val, by omega⟩)
  s1 := fun k c => x5 (ix2 k ⟨32 + c.val, by omega⟩)
  c1 := fun c => x6 (ix2 0 c)
  l1 := fun c => x7 (ix2 0 c)
  m1 := fun c => x8 (ix2 0 c)
  e2 := fun l c => x9 (ix2 l c)
  q2 := fun k c => x10 (ix2 k ⟨c.val, by omega⟩)
  k2 := fun k c => x10 (ix2 k ⟨32 + c.val, by omega⟩)
  g2 := fun k c => x11 (ix2 k ⟨c.val, by omega⟩)
  s2 := fun k c => x11 (ix2 k ⟨32 + c.val, by omega⟩)
  c2 := fun c => x12 (ix2 0 c)
  l2 := fun c => x13 (ix2 0 c)
  m2 := fun c => x14 (ix2 0 c)
  w1 := fun d k => x15 (ix2 d k)
  b1 := fun k => x16 (ix2 0 k)
  w2 := fun k c => x17 (ix2 k c)
  b2 := fun c => x18 (ix2 0 c)
  lg := fun c => x19 (ix2 0 c)
  lb := fun c => x20 (ix2 0 c)

/-- Graph `b` of the block. -/
def gr (b : Fin 256) : Fin 64 → Fin 64 → EReal :=
  pick (View.ld x0 r0_0) (View.ld x0 r0_1) (View.ld x0 r0_2) (View.ld x0 r0_3) b

/-- Reading all of block 4 gives the block. -/
theorem ld4 (x : Vec Ideal S64x32 .f32) : View.ld x r0_4 = x := View.ld_unit_lit _ x (by decide)
/-- Reading all of block 5 gives the block. -/
theorem ld5 (x : Vec Ideal S1x32 .f32) : View.ld x r0_5 = x := View.ld_unit_lit _ x (by decide)
/-- Reading all of block 6 gives the block. -/
theorem ld6 (x : Vec Ideal S32x64 .f32) : View.ld x r0_6 = x := View.ld_unit_lit _ x (by decide)
/-- Reading all of block 7 gives the block. -/
theorem ld7 (x : Vec Ideal S32x128 .f32) : View.ld x r0_7 = x := View.ld_unit_lit _ x (by decide)
/-- Reading all of block 8 gives the block. -/
theorem ld8 (x : Vec Ideal S1x128 .f32) : View.ld x r0_8 = x := View.ld_unit_lit _ x (by decide)
/-- Reading all of block 9 gives the block. -/
theorem ld9 (x : Vec Ideal S128x32 .f32) : View.ld x r0_9 = x := View.ld_unit_lit _ x (by decide)

/-- A cast to the same one-row shape changes nothing. -/
theorem pay9_eq (v : Vec Ideal S1x32 .f32) : k0_pay9 (F := Ideal) v = v := by
  funext j; rw [eq_ix2 j]; pointwise [k0_pay9]
/-- A cast to the same one-row shape changes nothing. -/
theorem pay10_eq (v : Vec Ideal S1x32 .f32) : k0_pay10 (F := Ideal) v = v := by
  funext j; rw [eq_ix2 j]; pointwise [k0_pay10]
/-- A cast to the same one-row shape changes nothing. -/
theorem pay18_eq (v : Vec Ideal S1x32 .f32) : k0_pay18 (F := Ideal) v = v := by
  funext j; rw [eq_ix2 j]; pointwise [k0_pay18]
/-- A cast to the same one-row shape changes nothing. -/
theorem pay19_eq (v : Vec Ideal S1x32 .f32) : k0_pay19 (F := Ideal) v = v := by
  funext j; rw [eq_ix2 j]; pointwise [k0_pay19]
/-- A cast to the same one-row shape changes nothing. -/
theorem pay23_eq (v : Vec Ideal S1x32 .f32) : k0_pay23 (F := Ideal) v = v := by
  funext j; rw [eq_ix2 j]; pointwise [k0_pay23]
/-- A cast to the same one-row shape changes nothing. -/
theorem pay24_eq (v : Vec Ideal S1x32 .f32) : k0_pay24 (F := Ideal) v = v := by
  funext j; rw [eq_ix2 j]; pointwise [k0_pay24]

/-- Rows of the first layer's result: a graph convolution per graph. -/
theorem pay33_at (b : Fin 256) (i : Fin 64) (c : Fin 32) :
    k0_pay33 (F := Ideal) x0 x1 x2 x3 x4 x5 x6 x7 x8 x9 x10 x11 x12 x13 x14 x15 x16 x17 x18 x19 x20 (ix2 (row b i) c) =
      Cert.Graph.conv (Cert.Graph.h0 (wts x1 x2 x3 x4 x5 x6 x7 x8 x9 x10 x11 x12 x13 x14 x15 x16 x17 x18 x19 x20) (gr x0 b))
        (fun i => Cert.Graph.attn (Cert.Graph.s0 (wts x1 x2 x3 x4 x5 x6 x7 x8 x9 x10 x11 x12 x13 x14 x15 x16 x17 x18 x19 x20) (gr x0 b) i) (Cert.Graph.thr (Cert.Graph.s0 (wts x1 x2 x3 x4 x5 x6 x7 x8 x9 x10 x11 x12 x13 x14 x15 x16 x17 x18 x19 x20) (gr x0 b) i)))
        (Cert.Graph.Weights.g1 (wts x1 x2 x3 x4 x5 x6 x7 x8 x9 x10 x11 x12 x13 x14 x15 x16 x17 x18 x19 x20)) (Cert.Graph.Weights.s1 (wts x1 x2 x3 x4 x5 x6 x7 x8 x9 x10 x11 x12 x13 x14 x15 x16 x17 x18 x19 x20)) (Cert.Graph.Weights.c1 (wts x1 x2 x3 x4 x5 x6 x7 x8 x9 x10 x11 x12 x13 x14 x15 x16 x17 x18 x19 x20)) i c := by
  have h2 : ∀ l c, k0_pay2 (F := Ideal) (View.ld x0 r0_0) (View.ld x0 r0_1) (View.ld x0 r0_2) (View.ld x0 r0_3) x1 x2
      (ix2 (row b l) c) = Cert.Graph.h0 (wts x1 x2 x3 x4 x5 x6 x7 x8 x9 x10 x11 x12 x13 x14 x15 x16 x17 x18 x19 x20) (gr x0 b) l c := fun l c => pay2_at _ _ _ _ _ _ b l c
  have h32 : ∀ i j, k0_pay32 (F := Ideal) x0 x1 x2 x3 x4 x5 x6 x7 x8 x9 x10 x11 x12 x13 x14 x15 x16 x17 x18 x19 x20 (ix3 b i j) = Cert.Graph.s0 (wts x1 x2 x3 x4 x5 x6 x7 x8 x9 x10 x11 x12 x13 x14 x15 x16 x17 x18 x19 x20) (gr x0 b) i j := by
    intro i j
    unfold k0_pay32
    rw [ld4, ld5, ld4, ld6]
    exact pay5_at _ _ _ _ _ _ _ _ b i j _ _ _ h2 (fun _ _ => rfl) (fun _ _ => rfl)
  unfold k0_pay33
  rw [ld4, ld5, ld6, ld5]
  refine pay8_at _ _ _ _ _ _ _ _ b i c _ _ _ _ h2 (fun i j => pay3_at i j)
    (fun l c => (pay4_at _ _ _ _ _ _ b l c).trans (h2 l c)) h32 (fun i => ?_) (fun i j => ?_) (fun _ _ => rfl) (fun _ _ => rfl)
  · rw [pay6_at]; exact congrArg _ (funext fun j => h32 i j)
  · rw [pay7_at]; exact congrArg _ (funext fun j => h32 i j)

/-- The features after the first layer. -/
theorem pay36_at (b : Fin 256) (i : Fin 64) (c : Fin 32) :
    k0_pay11 (F := Ideal) (k0_pay33 x0 x1 x2 x3 x4 x5 x6 x7 x8 x9 x10 x11 x12 x13 x14 x15 x16 x17 x18 x19 x20) (k0_pay34 x0 x1 x2 x3 x4 x5 x6 x7 x8 x9 x10 x11 x12 x13 x14 x15 x16 x17 x18 x19 x20) (k0_pay35 x0 x1 x2 x3 x4 x5 x6 x7 x8 x9 x10 x11 x12 x13 x14 x15 x16 x17 x18 x19 x20) (ix2 (row b i) c) =
      Cert.Graph.h1 (wts x1 x2 x3 x4 x5 x6 x7 x8 x9 x10 x11 x12 x13 x14 x15 x16 x17 x18 x19 x20) (gr x0 b) i c := by
  rw [pay11_at]
  simp only [pay33_at]
  unfold k0_pay34 k0_pay35
  rw [ld5, ld5, pay9_eq, pay10_eq]
  rfl

/-- The attention of the second layer. -/
theorem pay38_at (b : Fin 256) (i j : Fin 64) :
    k0_pay38 (F := Ideal) x0 x1 x2 x3 x4 x5 x6 x7 x8 x9 x10 x11 x12 x13 x14 x15 x16 x17 x18 x19 x20 (ix3 b i j) =
      Cert.Graph.attn (Cert.Graph.s1 (wts x1 x2 x3 x4 x5 x6 x7 x8 x9 x10 x11 x12 x13 x14 x15 x16 x17 x18 x19 x20) (gr x0 b) i) (Cert.Graph.thr (Cert.Graph.s1 (wts x1 x2 x3 x4 x5 x6 x7 x8 x9 x10 x11 x12 x13 x14 x15 x16 x17 x18 x19 x20) (gr x0 b) i)) j := by
  unfold k0_pay38
  rw [ld4, ld6]
  exact pay16_at _ _ _ _ _ b i j _ fun i j =>
    pay13_at _ _ _ _ _ b i j _ _ _ (fun l c => pay36_at x0 x1 x2 x3 x4 x5 x6 x7 x8 x9 x10 x11 x12 x13 x14 x15 x16 x17 x18 x19 x20 b l c) (fun _ _ => rfl) (fun _ _ => rfl)

/-- The second graph convolution. -/
def z2 (b : Fin 256) : Fin 64 → Fin 32 → EReal :=
  Cert.Graph.conv (Cert.Graph.h1 (wts x1 x2 x3 x4 x5 x6 x7 x8 x9 x10 x11 x12 x13 x14 x15 x16 x17 x18 x19 x20) (gr x0 b))
    (fun i => Cert.Graph.attn (Cert.Graph.s1 (wts x1 x2 x3 x4 x5 x6 x7 x8 x9 x10 x11 x12 x13 x14 x15 x16 x17 x18 x19 x20) (gr x0 b) i) (Cert.Graph.thr (Cert.Graph.s1 (wts x1 x2 x3 x4 x5 x6 x7 x8 x9 x10 x11 x12 x13 x14 x15 x16 x17 x18 x19 x20) (gr x0 b) i)))
    (Cert.Graph.Weights.g2 (wts x1 x2 x3 x4 x5 x6 x7 x8 x9 x10 x11 x12 x13 x14 x15 x16 x17 x18 x19 x20)) (Cert.Graph.Weights.s2 (wts x1 x2 x3 x4 x5 x6 x7 x8 x9 x10 x11 x12 x13 x14 x15 x16 x17 x18 x19 x20)) (Cert.Graph.Weights.c2 (wts x1 x2 x3 x4 x5 x6 x7 x8 x9 x10 x11 x12 x13 x14 x15 x16 x17 x18 x19 x20))

/-- Its rows less their mean. -/
theorem pay42_at (b : Fin 256) (i : Fin 64) (c : Fin 32) :
    k0_pay42 (F := Ideal) x0 x1 x2 x3 x4 x5 x6 x7 x8 x9 x10 x11 x12 x13 x14 x15 x16 x17 x18 x19 x20 (ix2 (row b i) c) = z2 x0 x1 x2 x3 x4 x5 x6 x7 x8 x9 x10 x11 x12 x13 x14 x15 x16 x17 x18 x19 x20 b i c - Cert.Graph.mean (z2 x0 x1 x2 x3 x4 x5 x6 x7 x8 x9 x10 x11 x12 x13 x14 x15 x16 x17 x18 x19 x20 b i) := by
  unfold k0_pay42
  rw [ld6, ld5]
  exact pay20_at _ _ _ _ _ _ b i c _ _ _ _ (fun l c => pay36_at x0 x1 x2 x3 x4 x5 x6 x7 x8 x9 x10 x11 x12 x13 x14 x15 x16 x17 x18 x19 x20 b l c) (fun i j => pay3_at i j)
    (fun l c => (pay12_at _ _ _ b l c).trans (pay36_at x0 x1 x2 x3 x4 x5 x6 x7 x8 x9 x10 x11 x12 x13 x14 x15 x16 x17 x18 x19 x20 b l c)) (fun i j => pay38_at x0 x1 x2 x3 x4 x5 x6 x7 x8 x9 x10 x11 x12 x13 x14 x15 x16 x17 x18 x19 x20 b i j)
    (fun _ _ => rfl) (fun _ _ => rfl)

/-- Their variance. -/
theorem pay43_at (b : Fin 256) (i : Fin 64) :
    k0_pay43 (F := Ideal) x0 x1 x2 x3 x4 x5 x6 x7 x8 x9 x10 x11 x12 x13 x14 x15 x16 x17 x18 x19 x20 (ix2 (row b i) 0) = Cert.Graph.var (z2 x0 x1 x2 x3 x4 x5 x6 x7 x8 x9 x10 x11 x12 x13 x14 x15 x16 x17 x18 x19 x20 b i) :=
  pay21_at _ _ _ _ _ _ _ _ _ fun c => pay42_at x0 x1 x2 x3 x4 x5 x6 x7 x8 x9 x10 x11 x12 x13 x14 x15 x16 x17 x18 x19 x20 b i c

/-- The features after the feed-forward block. -/
theorem pay44_at (b : Fin 256) (i : Fin 64) (c : Fin 32) :
    k0_pay44 (F := Ideal) x0 x1 x2 x3 x4 x5 x6 x7 x8 x9 x10 x11 x12 x13 x14 x15 x16 x17 x18 x19 x20 (ix2 (row b i) c) = Cert.Graph.h3 (wts x1 x2 x3 x4 x5 x6 x7 x8 x9 x10 x11 x12 x13 x14 x15 x16 x17 x18 x19 x20) (gr x0 b) i c := by
  unfold k0_pay44
  rw [ld7, ld8, ld9, ld5]
  refine (pay22_at _ _ _ _ _ _ _ _ _ c _ (fun c => pay42_at x0 x1 x2 x3 x4 x5 x6 x7 x8 x9 x10 x11 x12 x13 x14 x15 x16 x17 x18 x19 x20 b i c) (pay43_at x0 x1 x2 x3 x4 x5 x6 x7 x8 x9 x10 x11 x12 x13 x14 x15 x16 x17 x18 x19 x20 b i)).trans ?_
  unfold k0_pay40 k0_pay41
  rw [ld5, ld5, pay18_eq, pay19_eq]
  rfl

/-- Their sums. -/
theorem pay47_at (b : Fin 256) (i : Fin 64) :
    k0_pay47 (F := Ideal) x0 x1 x2 x3 x4 x5 x6 x7 x8 x9 x10 x11 x12 x13 x14 x15 x16 x17 x18 x19 x20 (ix1 (row b i)) = ∑ c, Cert.Graph.h3 (wts x1 x2 x3 x4 x5 x6 x7 x8 x9 x10 x11 x12 x13 x14 x15 x16 x17 x18 x19 x20) (gr x0 b) i c :=
  (pay25_at _ _ _ _ _ _ _ _ _).trans (Finset.sum_congr rfl fun c _ => pay44_at x0 x1 x2 x3 x4 x5 x6 x7 x8 x9 x10 x11 x12 x13 x14 x15 x16 x17 x18 x19 x20 b i c)

/-- The 32 outputs of each graph of the block. -/
theorem head_at (b : Fin 256) (c : Fin 32) :
    k0_pay26 (F := Ideal) (k0_pay44 x0 x1 x2 x3 x4 x5 x6 x7 x8 x9 x10 x11 x12 x13 x14 x15 x16 x17 x18 x19 x20) (k0_pay45 x0 x1 x2 x3 x4 x5 x6 x7 x8 x9 x10 x11 x12 x13 x14 x15 x16 x17 x18 x19 x20) (k0_pay46 x0 x1 x2 x3 x4 x5 x6 x7 x8 x9 x10 x11 x12 x13 x14 x15 x16 x17 x18 x19 x20) (k0_pay47 x0 x1 x2 x3 x4 x5 x6 x7 x8 x9 x10 x11 x12 x13 x14 x15 x16 x17 x18 x19 x20) (ix2 b c) =
      Cert.Graph.net (wts x1 x2 x3 x4 x5 x6 x7 x8 x9 x10 x11 x12 x13 x14 x15 x16 x17 x18 x19 x20) (gr x0 b) c := by
  refine (pay26_at _ _ _ _ b c _ (fun l c => pay44_at x0 x1 x2 x3 x4 x5 x6 x7 x8 x9 x10 x11 x12 x13 x14 x15 x16 x17 x18 x19 x20 b l c) (fun l => pay47_at x0 x1 x2 x3 x4 x5 x6 x7 x8 x9 x10 x11 x12 x13 x14 x15 x16 x17 x18 x19 x20 b l)).trans ?_
  unfold k0_pay45 k0_pay46
  rw [ld5, ld5, pay23_eq, pay24_eq]
  rfl

/-- Graph `q * 64 + s` of the block holds lanes `64 q ..` of row `s`. -/
theorem gr_at (q : Fin 4) (s i k : Fin 64) :
    gr x0 ⟨q.val * 64 + s.val, by omega⟩ i k = x0 (ix3 s i ⟨q.val * 64 + k.val, by omega⟩) := by
  have hs := s.isLt
  unfold gr pick
  match q with
  | 0 =>
    rw [dif_pos (by show 0 * 64 + s.val < 64; omega)]
    refine View.ld_unit_apply_of _ _ _ _ _ _ fun a => ?_
    fin_cases a <;> simp [ix3]
  | 1 =>
    rw [dif_neg (by show ¬ 1 * 64 + s.val < 64; omega), dif_pos (by show 1 * 64 + s.val - 64 < 64; omega)]
    refine View.ld_unit_apply_of _ _ _ _ _ _ fun a => ?_
    fin_cases a <;> simp [ix3]
  | 2 =>
    rw [dif_neg (by show ¬ 2 * 64 + s.val < 64; omega), dif_neg (by show ¬ 2 * 64 + s.val - 64 < 64; omega),
      dif_pos (by show 2 * 64 + s.val - 64 - 64 < 64; omega)]
    refine View.ld_unit_apply_of _ _ _ _ _ _ fun a => ?_
    fin_cases a <;> simp [ix3] <;> omega
  | 3 =>
    rw [dif_neg (by show ¬ 3 * 64 + s.val < 64; omega), dif_neg (by show ¬ 3 * 64 + s.val - 64 < 64; omega),
      dif_neg (by show ¬ 3 * 64 + s.val - 64 - 64 < 64; omega)]
    refine View.ld_unit_apply_of _ _ _ _ _ _ fun a => ?_
    fin_cases a <;> simp [ix3] <;> omega

/-- What the body leaves in its output block. -/
theorem out0_at (q : Fin 4) (s : Fin 64) (c : Fin 32) :
    out0_21 (F := Ideal) x0 x1 x2 x3 x4 x5 x6 x7 x8 x9 x10 x11 x12 x13 x14 x15 x16 x17 x18 x19 x20 (ix3 q s c) = Cert.Graph.net (wts x1 x2 x3 x4 x5 x6 x7 x8 x9 x10 x11 x12 x13 x14 x15 x16 x17 x18 x19 x20) (fun i k => x0 (ix3 s i ⟨q.val * 64 + k.val, by omega⟩)) c := by
  have hg : (fun i k => x0 (ix3 s i ⟨q.val * 64 + k.val, by omega⟩)) = gr x0 ⟨q.val * 64 + s.val, by omega⟩ :=
    funext fun i => funext fun k => (gr_at x0 q s i k).symm
  rw [hg, ← head_at]
  unfold out0_21
  canon_tiles x h
  all_goals
    obtain rfl : x = ix3 0 s c := by
      funext a
      match a with
      | ⟨0, _⟩ => exact Fin.ext (by show (x 0 : ℕ) = 0; omega)
      | ⟨1, _⟩ => exact Fin.ext h1.symm
      | ⟨2, _⟩ => exact Fin.ext h2.symm
  · obtain rfl : q = 3 := Fin.ext h0
    exact pay30_at _ _ _ _ s c
  · obtain rfl : q = 2 := Fin.ext h0
    exact pay29_at _ _ _ _ s c
  · obtain rfl : q = 1 := Fin.ext h0
    exact pay28_at _ _ _ _ s c
  · obtain rfl : q = 0 := Fin.ext h0
    refine (pay27_at _ _ _ _ s c).trans (congrArg (fun b => k0_pay26 _ _ _ _ (ix2 b c)) (Fin.ext ?_))
    show s.val = 0 * 64 + s.val
    omega

end Cert.KernelIdeal.Graphs

end

end
-- ==== Proof.KWin.lean ====
/-
  Which parts of the arrays the windows of both calls show, and what both calls leave in their results.
-/
module

public import proofs.«01_k».proof.Proof.KGraph
public import Idealize.ShloMosaic.Lib.Pipeline.ValueKit.Geometry
public import Idealize.ShloMosaic.Lib.Pipeline.ValueKit.Acc

@[expose] public section

set_option maxRecDepth 16384

noncomputable section

namespace Cert.KernelIdeal.Graphs

open Idealize.ShloMosaic Idealize.ShloMosaic.TcCoe Idealize.ShloMosaic.Pipeline Idealize.SL.Sem Cert.KernelIdeal Cert.KernelIdeal.Gen

variable (V : (c : Dev nD) → (b : Ref sig .tc) → Buf (Elt Ideal) ((c : Thread nD τ).loc b)) (c : Dev nD)

/-! ### A window that is the whole array reads the array -/

/-- Window 1 of call 0 stays at the origin at every grid step. -/
theorem e0_1 : ∀ t : Fin cfg0.N, win0_1.index t = ![0, 0] := (by decide +kernel : ∀ t : Fin grid0.N, _)
/-- Window 1 of call 0 shows its whole array at every grid step. -/
theorem ib0_1 (t : Fin cfg0.N) : (iblk0 V c 1 t : Vec Ideal S64x32 .f32) = V c main_arg3 := by
  funext y
  blk_ext [iblk0, e0_1]
/-- Window 2 of call 0 stays at the origin at every grid step. -/
theorem e0_2 : ∀ t : Fin cfg0.N, win0_2.index t = ![0, 0] := (by decide +kernel : ∀ t : Fin grid0.N, _)
/-- Window 2 of call 0 shows its whole array at every grid step. -/
theorem ib0_2 (t : Fin cfg0.N) : (iblk0 V c 2 t : Vec Ideal S1x32 .f32) = V c main_v0 := by
  funext y
  blk_ext [iblk0, e0_2]
/-- Window 3 of call 0 stays at the origin at every grid step. -/
theorem e0_3 : ∀ t : Fin cfg0.N, win0_3.index t = ![0, 0] := (by decide +kernel : ∀ t : Fin grid0.N, _)
/-- Window 3 of call 0 shows its whole array at every grid step. -/
theorem ib0_3 (t : Fin cfg0.N) : (iblk0 V c 3 t : Vec Ideal S64x32 .f32) = V c main_arg5 := by
  funext y
  blk_ext [iblk0, e0_3]
/-- Window 4 of call 0 stays at the origin at every grid step. -/
theorem e0_4 : ∀ t : Fin cfg0.N, win0_4.index t = ![0, 0] := (by decide +kernel : ∀ t : Fin grid0.N, _)
/-- Window 4 of call 0 shows its whole array at every grid step. -/
theorem ib0_4 (t : Fin cfg0.N) : (iblk0 V c 4 t : Vec Ideal S32x64 .f32) = V c main_v1 := by
  funext y
  blk_ext [iblk0, e0_4]
/-- Window 5 of call 0 stays at the origin at every grid step. -/
theorem e0_5 : ∀ t : Fin cfg0.N, win0_5.index t = ![0, 0] := (by decide +kernel : ∀ t : Fin grid0.N, _)
/-- Window 5 of call 0 shows its whole array at every grid step. -/
theorem ib0_5 (t : Fin cfg0.N) : (iblk0 V c 5 t : Vec Ideal S32x64 .f32) = V c main_v3 := by
  funext y
  blk_ext [iblk0, e0_5]
/-- Window 6 of call 0 stays at the origin at every grid step. -/
theorem e0_6 : ∀ t : Fin cfg0.N, win0_6.index t = ![0, 0] := (by decide +kernel : ∀ t : Fin grid0.N, _)
/-- Window 6 of call 0 shows its whole array at every grid step. -/
theorem ib0_6 (t : Fin cfg0.N) : (iblk0 V c 6 t : Vec Ideal S1x32 .f32) = V c main_v5 := by
  funext y
  blk_ext [iblk0, e0_6]
/-- Window 7 of call 0 stays at the origin at every grid step. -/
theorem e0_7 : ∀ t : Fin cfg0.N, win0_7.index t = ![0, 0] := (by decide +kernel : ∀ t : Fin grid0.N, _)
/-- Window 7 of call 0 shows its whole array at every grid step. -/
theorem ib0_7 (t : Fin cfg0.N) : (iblk0 V c 7 t : Vec Ideal S1x32 .f32) = V c main_v7 := by
  funext y
  blk_ext [iblk0, e0_7]
/-- Window 8 of call 0 stays at the origin at every grid step. -/
theorem e0_8 : ∀ t : Fin cfg0.N, win0_8.index t = ![0, 0] := (by decide +kernel : ∀ t : Fin grid0.N, _)
/-- Window 8 of call 0 shows its whole array at every grid step. -/
theorem ib0_8 (t : Fin cfg0.N) : (iblk0 V c 8 t : Vec Ideal S1x32 .f32) = V c main_v8 := by
  funext y
  blk_ext [iblk0, e0_8]
/-- Window 9 of call 0 stays at the origin at every grid step. -/
theorem e0_9 : ∀ t : Fin cfg0.N, win0_9.index t = ![0, 0] := (by decide +kernel : ∀ t : Fin grid0.N, _)
/-- Window 9 of call 0 shows its whole array at every grid step. -/
theorem ib0_9 (t : Fin cfg0.N) : (iblk0 V c 9 t : Vec Ideal S64x32 .f32) = V c main_arg13 := by
  funext y
  blk_ext [iblk0, e0_9]
/-- Window 10 of call 0 stays at the origin at every grid step. -/
theorem e0_10 : ∀ t : Fin cfg0.N, win0_10.index t = ![0, 0] := (by decide +kernel : ∀ t : Fin grid0.N, _)
/-- Window 10 of call 0 shows its whole array at every grid step. -/
theorem ib0_10 (t : Fin cfg0.N) : (iblk0 V c 10 t : Vec Ideal S32x64 .f32) = V c main_v2 := by
  funext y
  blk_ext [iblk0, e0_10]
/-- Window 11 of call 0 stays at the origin at every grid step. -/
theorem e0_11 : ∀ t : Fin cfg0.N, win0_11.index t = ![0, 0] := (by decide +kernel : ∀ t : Fin grid0.N, _)
/-- Window 11 of call 0 shows its whole array at every grid step. -/
theorem ib0_11 (t : Fin cfg0.N) : (iblk0 V c 11 t : Vec Ideal S32x64 .f32) = V c main_v4 := by
  funext y
  blk_ext [iblk0, e0_11]
/-- Window 12 of call 0 stays at the origin at every grid step. -/
theorem e0_12 : ∀ t : Fin cfg0.N, win0_12.index t = ![0, 0] := (by decide +kernel : ∀ t : Fin grid0.N, _)
/-- Window 12 of call 0 shows its whole array at every grid step. -/
theorem ib0_12 (t : Fin cfg0.N) : (iblk0 V c 12 t : Vec Ideal S1x32 .f32) = V c main_v6 := by
  funext y
  blk_ext [iblk0, e0_12]
/-- Window 13 of call 0 stays at the origin at every grid step. -/
theorem e0_13 : ∀ t : Fin cfg0.N, win0_13.index t = ![0, 0] := (by decide +kernel : ∀ t : Fin grid0.N, _)
/-- Window 13 of call 0 shows its whole array at every grid step. -/
theorem ib0_13 (t : Fin cfg0.N) : (iblk0 V c 13 t : Vec Ideal S1x32 .f32) = V c main_v9 := by
  funext y
  blk_ext [iblk0, e0_13]
/-- Window 14 of call 0 stays at the origin at every grid step. -/
theorem e0_14 : ∀ t : Fin cfg0.N, win0_14.index t = ![0, 0] := (by decide +kernel : ∀ t : Fin grid0.N, _)
/-- Window 14 of call 0 shows its whole array at every grid step. -/
theorem ib0_14 (t : Fin cfg0.N) : (iblk0 V c 14 t : Vec Ideal S1x32 .f32) = V c main_v10 := by
  funext y
  blk_ext [iblk0, e0_14]
/-- Window 15 of call 0 stays at the origin at every grid step. -/
theorem e0_15 : ∀ t : Fin cfg0.N, win0_15.index t = ![0, 0] := (by decide +kernel : ∀ t : Fin grid0.N, _)
/-- Window 15 of call 0 shows its whole array at every grid step. -/
theorem ib0_15 (t : Fin cfg0.N) : (iblk0 V c 15 t : Vec Ideal S32x128 .f32) = V c main_arg21 := by
  funext y
  blk_ext [iblk0, e0_15]
/-- Window 16 of call 0 stays at the origin at every grid step. -/
theorem e0_16 : ∀ t : Fin cfg0.N, win0_16.index t = ![0, 0] := (by decide +kernel : ∀ t : Fin grid0.N, _)
/-- Window 16 of call 0 shows its whole array at every grid step. -/
theorem ib0_16 (t : Fin cfg0.N) : (iblk0 V c 16 t : Vec Ideal S1x128 .f32) = V c main_v11 := by
  funext y
  blk_ext [iblk0, e0_16]
/-- Window 17 of call 0 stays at the origin at every grid step. -/
theorem e0_17 : ∀ t : Fin cfg0.N, win0_17.index t = ![0, 0] := (by decide +kernel : ∀ t : Fin grid0.N, _)
/-- Window 17 of call 0 shows its whole array at every grid step. -/
theorem ib0_17 (t : Fin cfg0.N) : (iblk0 V c 17 t : Vec Ideal S128x32 .f32) = V c main_arg23 := by
  funext y
  blk_ext [iblk0, e0_17]
/-- Window 18 of call 0 stays at the origin at every grid step. -/
theorem e0_18 : ∀ t : Fin cfg0.N, win0_18.index t = ![0, 0] := (by decide +kernel : ∀ t : Fin grid0.N, _)
/-- Window 18 of call 0 shows its whole array at every grid step. -/
theorem ib0_18 (t : Fin cfg0.N) : (iblk0 V c 18 t : Vec Ideal S1x32 .f32) = V c main_v12 := by
  funext y
  blk_ext [iblk0, e0_18]
/-- Window 19 of call 0 stays at the origin at every grid step. -/
theorem e0_19 : ∀ t : Fin cfg0.N, win0_19.index t = ![0, 0] := (by decide +kernel : ∀ t : Fin grid0.N, _)
/-- Window 19 of call 0 shows its whole array at every grid step. -/
theorem ib0_19 (t : Fin cfg0.N) : (iblk0 V c 19 t : Vec Ideal S1x32 .f32) = V c main_v13 := by
  funext y
  blk_ext [iblk0, e0_19]
/-- Window 20 of call 0 stays at the origin at every grid step. -/
theorem e0_20 : ∀ t : Fin cfg0.N, win0_20.index t = ![0, 0] := (by decide +kernel : ∀ t : Fin grid0.N, _)
/-- Window 20 of call 0 shows its whole array at every grid step. -/
theorem ib0_20 (t : Fin cfg0.N) : (iblk0 V c 20 t : Vec Ideal S1x32 .f32) = V c main_v14 := by
  funext y
  blk_ext [iblk0, e0_20]

/-- The feature window moves along the last axis with the grid step. -/
theorem e0_0 : ∀ t : Fin cfg0.N, win0_0.index t = ![0, 0, t.val] := (by decide +kernel : ∀ t : Fin grid0.N, _)
/-- The output window moves along the first axis with the grid step. -/
theorem e0_21 : ∀ t : Fin cfg0.N, win0_21.index t = ![t.val, 0, 0] := (by decide +kernel : ∀ t : Fin grid0.N, _)

/-- Block `t` of the features holds lanes `256 t ..`. -/
theorem ib0_0 (t : Fin cfg0.N) (s i : Fin 64) (k : Fin 256) (k' : Fin 4096) (h : k'.val = t.val * 256 + k.val) :
    (iblk0 V c 0 t : Vec Ideal S64x64x256 .f32) (ix3 s i k) =
      (V c main_v18 : Vec Ideal S64x64x4096 .f32) (ix3 s i k') := by
  blk_ext [iblk0, e0_0, h]

/-- The weights, read off the arrays the region finds. -/
def wV : Cert.Graph.Weights :=
  wts (V c main_arg3) (V c main_v0) (V c main_arg5) (V c main_v1) (V c main_v3) (V c main_v5) (V c main_v7) (V c main_v8) (V c main_arg13) (V c main_v2) (V c main_v4) (V c main_v6) (V c main_v9) (V c main_v10) (V c main_arg21) (V c main_v11) (V c main_arg23) (V c main_v12) (V c main_v13) (V c main_v14)

/-- What region 0 leaves for channel `ch` and row `s`: the network's outputs on that graph. -/
def gV (ch s : Fin 64) (h : Fin 32) : EReal :=
  Cert.Graph.net (wV V c) (fun i k => (V c main_v18 : Vec Ideal S64x64x4096 .f32)
    (ix3 s i ⟨ch.val * 64 + k.val, by omega⟩)) h

/-- The same as an array. -/
def G0 : Vec Ideal S64x64x32 .f32 := fun j => gV V c (j 0) (j 1) (j 2)

/-- Region 0's output array after the run. -/
theorem arr0 : (dat0 V c).arrAt 21 cfg0.N = G0 V c := by
  refine Dat.arrAt_eq_of_covers _ 21 _ (by decide +kernel) fun t hf y => ?_
  blk_simp
  rw [after0_21]
  have hN : t.val < 16 := t.isLt
  let q : Fin 4 := y 0
  let s : Fin 64 := y 1
  let h : Fin 32 := y 2
  have hq := q.isLt
  have hG : G0 V c (((cfg0.win 21).blk t).view.emb y) = gV V c ⟨t.val * 4 + q.val, by omega⟩ s h := by
    show gV V c _ _ _ = _
    congr 1 <;> apply Fin.ext <;> blk_simp [e0_21] <;> rfl
  refine Eq.trans ?_ hG.symm
  refine (congrArg _ (eq_ix3 (n0 := 4) (n1 := 64) (n2 := 32) y)).trans ?_
  refine (out0_at _ _ _ _ _ _ _ _ _ _ _ _ _ _ _ _ _ _ _ _ _ q s h).trans ?_
  rw [ib0_1, ib0_2, ib0_3, ib0_4, ib0_5, ib0_6, ib0_7, ib0_8, ib0_9, ib0_10, ib0_11, ib0_12, ib0_13, ib0_14, ib0_15, ib0_16, ib0_17, ib0_18, ib0_19, ib0_20]
  refine congrArg (fun x => Cert.Graph.net _ x h) (funext fun i => funext fun k => ?_)
  exact ib0_0 V c t s i _ _ (by show (t.val * 4 + q.val) * 64 + k.val = t.val * 256 + (q.val * 64 + k.val); omega)

/-- Window 0 of call 1 stays at the origin at every grid step. -/
theorem e1_0 : ∀ t : Fin cfg1.N, win1_0.index t = ![0, 0] := (by decide +kernel : ∀ t : Fin grid1.N, _)
/-- Window 0 of call 1 shows its whole array at every grid step. -/
theorem ib1_0 (t : Fin cfg1.N) : (iblk1 V c 0 t : Vec Ideal S64x2048 .f32) = V c main_v21 := by
  funext y
  blk_ext [iblk1, e1_0]
/-- Window 1 of call 1 stays at the origin at every grid step. -/
theorem e1_1 : ∀ t : Fin cfg1.N, win1_1.index t = ![0, 0] := (by decide +kernel : ∀ t : Fin grid1.N, _)
/-- Window 1 of call 1 shows its whole array at every grid step. -/
theorem ib1_1 (t : Fin cfg1.N) : (iblk1 V c 1 t : Vec Ideal S2048x32 .f32) = V c main_arg27 := by
  funext y
  blk_ext [iblk1, e1_1]
/-- Window 2 of call 1 stays at the origin at every grid step. -/
theorem e1_2 : ∀ t : Fin cfg1.N, win1_2.index t = ![0, 0] := (by decide +kernel : ∀ t : Fin grid1.N, _)
/-- Window 2 of call 1 shows its whole array at every grid step. -/
theorem ib1_2 (t : Fin cfg1.N) : (iblk1 V c 2 t : Vec Ideal S1x32 .f32) = V c main_v15 := by
  funext y
  blk_ext [iblk1, e1_2]
/-- Window 3 of call 1 stays at the origin at every grid step. -/
theorem e1_3 : ∀ t : Fin cfg1.N, win1_3.index t = ![0, 0] := (by decide +kernel : ∀ t : Fin grid1.N, _)
/-- Window 3 of call 1 shows its whole array at every grid step. -/
theorem ib1_3 (t : Fin cfg1.N) : (iblk1 V c 3 t : Vec Ideal S1x32 .f32) = V c main_v16 := by
  funext y
  blk_ext [iblk1, e1_3]
/-- Window 4 of call 1 stays at the origin at every grid step. -/
theorem e1_4 : ∀ t : Fin cfg1.N, win1_4.index t = ![0, 0] := (by decide +kernel : ∀ t : Fin grid1.N, _)
/-- Window 4 of call 1 shows its whole array at every grid step. -/
theorem ib1_4 (t : Fin cfg1.N) : (iblk1 V c 4 t : Vec Ideal S1x1 .f32) = V c main_v17 := by
  funext y
  blk_ext [iblk1, e1_4]

/-- The second call decodes each row; every lane of its result row holds the answer. -/
theorem arr1 (s : Fin 64) (k : Fin 128) : ((dat1 V c).arrAt 5 cfg1.N : Vec Ideal S64x128 .f32) (ix2 s k) =
    Cert.Graph.decode (fun d => (V c main_v21 : Vec Ideal S64x2048 .f32) (ix2 s d))
      (fun d k => (V c main_arg27 : Vec Ideal S2048x32 .f32) (ix2 d k))
      (fun k => (V c main_v15 : Vec Ideal S1x32 .f32) (ix2 0 k))
      (fun k => (V c main_v16 : Vec Ideal S1x32 .f32) (ix2 0 k))
      ((V c main_v17 : Vec Ideal S1x1 .f32) (ix2 0 0)) := by
  refine (Dat.arrAt_emb_eq_after_last (dat1 V c) 5 (⟨0, by decide⟩ : Fin cfg1.N) (by decide +kernel) (ix2 s k)).trans ?_
  show (dat1 V c).after 5 (⟨0, by decide⟩ : Fin cfg1.N) (ix2 s k) = _
  rw [after1_5]
  unfold out1_5
  rw [View.canon_cons_unit_lit _ _ _ (by decide)]
  rw [View.ld_unit_lit _ _ (by decide), View.ld_unit_lit _ _ (by decide), View.ld_unit_lit _ _ (by decide), View.ld_unit_lit _ _ (by decide), View.ld_unit_lit _ _ (by decide)]
  refine (decoder_at _ _ _ _ _ s k).trans ?_
  rw [ib1_0, ib1_1, ib1_2, ib1_3, ib1_4]

end Cert.KernelIdeal.Graphs

end

end
-- ==== Proof.KVal.lean ====
/-
  The arrays that the host code lays out for both calls, and the kernel's result in terms of the arguments.
-/
module

public import proofs.«01_k».proof.Proof.KWin
public import proofs.«01_k».proof.Proof.Net
public import Idealize.ShloMosaic.Lib.Pointwise

@[expose] public section

set_option maxRecDepth 16384

noncomputable section

namespace Cert.KernelIdeal.Graphs

open Idealize.ShloMosaic Idealize.ShloMosaic.TcCoe Idealize.ShloMosaic.Pipeline Idealize.SL.Sem Cert.KernelIdeal Cert.KernelIdeal.Gen

variable (m : (ℓ : Loc nD τ sig) → Buf (Elt Ideal) ℓ) (ρ : Dev nD → PrngReg) (c : Dev nD)

/-! ### What the host leaves in the arrays region 0 reads -/

/-- An entry of the array `main_v0` is the matching entry of `main_arg4`. -/
theorem at_v0 (k : Fin 32) : (V1 m ρ c main_v0 : Vec Ideal S1x32 .f32) (ix2 0 k) =
    (m ((c.tc : Thread nD τ).loc main_arg4) : Vec Ideal S32 .f32) (ix1 k) := by
  show (StableHlo.after hostOps0 (W0 m ρ c) (Proc.devRef .tc main_v0) : Vec Ideal S1x32 .f32) (ix2 0 k) = _
  after_results
  pointwise []
/-- An entry of the array `main_v5` is the matching entry of `main_arg10`. -/
theorem at_v5 (k : Fin 32) : (V1 m ρ c main_v5 : Vec Ideal S1x32 .f32) (ix2 0 k) =
    (m ((c.tc : Thread nD τ).loc main_arg10) : Vec Ideal S32 .f32) (ix1 k) := by
  show (StableHlo.after hostOps0 (W0 m ρ c) (Proc.devRef .tc main_v5) : Vec Ideal S1x32 .f32) (ix2 0 k) = _
  after_results
  pointwise []
/-- An entry of the array `main_v7` is the matching entry of `main_arg11`. -/
theorem at_v7 (k : Fin 32) : (V1 m ρ c main_v7 : Vec Ideal S1x32 .f32) (ix2 0 k) =
    (m ((c.tc : Thread nD τ).loc main_arg11) : Vec Ideal S32 .f32) (ix1 k) := by
  show (StableHlo.after hostOps0 (W0 m ρ c) (Proc.devRef .tc main_v7) : Vec Ideal S1x32 .f32) (ix2 0 k) = _
  after_results
  pointwise []
/-- An entry of the array `main_v8` is the matching entry of `main_arg12`. -/
theorem at_v8 (k : Fin 32) : (V1 m ρ c main_v8 : Vec Ideal S1x32 .f32) (ix2 0 k) =
    (m ((c.tc : Thread nD τ).loc main_arg12) : Vec Ideal S32 .f32) (ix1 k) := by
  show (StableHlo.after hostOps0 (W0 m ρ c) (Proc.devRef .tc main_v8) : Vec Ideal S1x32 .f32) (ix2 0 k) = _
  after_results
  pointwise []
/-- An entry of the array `main_v6` is the matching entry of `main_arg18`. -/
theorem at_v6 (k : Fin 32) : (V1 m ρ c main_v6 : Vec Ideal S1x32 .f32) (ix2 0 k) =
    (m ((c.tc : Thread nD τ).loc main_arg18) : Vec Ideal S32 .f32) (ix1 k) := by
  show (StableHlo.after hostOps0 (W0 m ρ c) (Proc.devRef .tc main_v6) : Vec Ideal S1x32 .f32) (ix2 0 k) = _
  after_results
  pointwise []
/-- An entry of the array `main_v9` is the matching entry of `main_arg19`. -/
theorem at_v9 (k : Fin 32) : (V1 m ρ c main_v9 : Vec Ideal S1x32 .f32) (ix2 0 k) =
    (m ((c.tc : Thread nD τ).loc main_arg19) : Vec Ideal S32 .f32) (ix1 k) := by
  show (StableHlo.after hostOps0 (W0 m ρ c) (Proc.devRef .tc main_v9) : Vec Ideal S1x32 .f32) (ix2 0 k) = _
  after_results
  pointwise []
/-- An entry of the array `main_v10` is the matching entry of `main_arg20`. -/
theorem at_v10 (k : Fin 32) : (V1 m ρ c main_v10 : Vec Ideal S1x32 .f32) (ix2 0 k) =
    (m ((c.tc : Thread nD τ).loc main_arg20) : Vec Ideal S32 .f32) (ix1 k) := by
  show (StableHlo.after hostOps0 (W0 m ρ c) (Proc.devRef .tc main_v10) : Vec Ideal S1x32 .f32) (ix2 0 k) = _
  after_results
  pointwise []
/-- An entry of the array `main_v12` is the matching entry of `main_arg24`. -/
theorem at_v12 (k : Fin 32) : (V1 m ρ c main_v12 : Vec Ideal S1x32 .f32) (ix2 0 k) =
    (m ((c.tc : Thread nD τ).loc main_arg24) : Vec Ideal S32 .f32) (ix1 k) := by
  show (StableHlo.after hostOps0 (W0 m ρ c) (Proc.devRef .tc main_v12) : Vec Ideal S1x32 .f32) (ix2 0 k) = _
  after_results
  pointwise []
/-- An entry of the array `main_v13` is the matching entry of `main_arg25`. -/
theorem at_v13 (k : Fin 32) : (V1 m ρ c main_v13 : Vec Ideal S1x32 .f32) (ix2 0 k) =
    (m ((c.tc : Thread nD τ).loc main_arg25) : Vec Ideal S32 .f32) (ix1 k) := by
  show (StableHlo.after hostOps0 (W0 m ρ c) (Proc.devRef .tc main_v13) : Vec Ideal S1x32 .f32) (ix2 0 k) = _
  after_results
  pointwise []
/-- An entry of the array `main_v14` is the matching entry of `main_arg26`. -/
theorem at_v14 (k : Fin 32) : (V1 m ρ c main_v14 : Vec Ideal S1x32 .f32) (ix2 0 k) =
    (m ((c.tc : Thread nD τ).loc main_arg26) : Vec Ideal S32 .f32) (ix1 k) := by
  show (StableHlo.after hostOps0 (W0 m ρ c) (Proc.devRef .tc main_v14) : Vec Ideal S1x32 .f32) (ix2 0 k) = _
  after_results
  pointwise []
/-- An entry of the array `main_v15` is the matching entry of `main_arg28`. -/
theorem at_v15 (k : Fin 32) : (V1 m ρ c main_v15 : Vec Ideal S1x32 .f32) (ix2 0 k) =
    (m ((c.tc : Thread nD τ).loc main_arg28) : Vec Ideal S32 .f32) (ix1 k) := by
  show (StableHlo.after hostOps0 (W0 m ρ c) (Proc.devRef .tc main_v15) : Vec Ideal S1x32 .f32) (ix2 0 k) = _
  after_results
  pointwise []
/-- An entry of the array `main_v11` is the matching entry of `main_arg22`. -/
theorem at_v11 (k : Fin 128) : (V1 m ρ c main_v11 : Vec Ideal S1x128 .f32) (ix2 0 k) =
    (m ((c.tc : Thread nD τ).loc main_arg22) : Vec Ideal S128 .f32) (ix1 k) := by
  show (StableHlo.after hostOps0 (W0 m ρ c) (Proc.devRef .tc main_v11) : Vec Ideal S1x128 .f32) (ix2 0 k) = _
  after_results
  pointwise []
/-- An entry of the array `main_v1` (left half) is the matching entry of `main_arg6`. -/
theorem at_v1a (k c' : Fin 32) : (V1 m ρ c main_v1 : Vec Ideal S32x64 .f32) (ix2 k ⟨c'.val, by omega⟩) =
    (m ((c.tc : Thread nD τ).loc main_arg6) : Vec Ideal S32x32 .f32) (ix2 k c') := by
  show (StableHlo.after hostOps0 (W0 m ρ c) (Proc.devRef .tc main_v1) : Vec Ideal S32x64 .f32) _ = _
  after_results
  pointwise []
/-- An entry of the array `main_v1` (right half) is the matching entry of `main_arg7`. -/
theorem at_v1b (k c' : Fin 32) : (V1 m ρ c main_v1 : Vec Ideal S32x64 .f32) (ix2 k ⟨32 + c'.val, by omega⟩) =
    (m ((c.tc : Thread nD τ).loc main_arg7) : Vec Ideal S32x32 .f32) (ix2 k c') := by
  show (StableHlo.after hostOps0 (W0 m ρ c) (Proc.devRef .tc main_v1) : Vec Ideal S32x64 .f32) _ = _
  after_results
  pointwise []
/-- An entry of the array `main_v2` (left half) is the matching entry of `main_arg14`. -/
theorem at_v2a (k c' : Fin 32) : (V1 m ρ c main_v2 : Vec Ideal S32x64 .f32) (ix2 k ⟨c'.val, by omega⟩) =
    (m ((c.tc : Thread nD τ).loc main_arg14) : Vec Ideal S32x32 .f32) (ix2 k c') := by
  show (StableHlo.after hostOps0 (W0 m ρ c) (Proc.devRef .tc main_v2) : Vec Ideal S32x64 .f32) _ = _
  after_results
  pointwise []
/-- An entry of the array `main_v2` (right half) is the matching entry of `main_arg15`. -/
theorem at_v2b (k c' : Fin 32) : (V1 m ρ c main_v2 : Vec Ideal S32x64 .f32) (ix2 k ⟨32 + c'.val, by omega⟩) =
    (m ((c.tc : Thread nD τ).loc main_arg15) : Vec Ideal S32x32 .f32) (ix2 k c') := by
  show (StableHlo.after hostOps0 (W0 m ρ c) (Proc.devRef .tc main_v2) : Vec Ideal S32x64 .f32) _ = _
  after_results
  pointwise []
/-- An entry of the array `main_v3` (left half) is the matching entry of `main_arg8`. -/
theorem at_v3a (k c' : Fin 32) : (V1 m ρ c main_v3 : Vec Ideal S32x64 .f32) (ix2 k ⟨c'.val, by omega⟩) =
    (m ((c.tc : Thread nD τ).loc main_arg8) : Vec Ideal S32x32 .f32) (ix2 k c') := by
  show (StableHlo.after hostOps0 (W0 m ρ c) (Proc.devRef .tc main_v3) : Vec Ideal S32x64 .f32) _ = _
  after_results
  pointwise []
/-- An entry of the array `main_v3` (right half) is the matching entry of `main_arg9`. -/
theorem at_v3b (k c' : Fin 32) : (V1 m ρ c main_v3 : Vec Ideal S32x64 .f32) (ix2 k ⟨32 + c'.val, by omega⟩) =
    (m ((c.tc : Thread nD τ).loc main_arg9) : Vec Ideal S32x32 .f32) (ix2 k c') := by
  show (StableHlo.after hostOps0 (W0 m ρ c) (Proc.devRef .tc main_v3) : Vec Ideal S32x64 .f32) _ = _
  after_results
  pointwise []
/-- An entry of the array `main_v4` (left half) is the matching entry of `main_arg16`. -/
theorem at_v4a (k c' : Fin 32) : (V1 m ρ c main_v4 : Vec Ideal S32x64 .f32) (ix2 k ⟨c'.val, by omega⟩) =
    (m ((c.tc : Thread nD τ).loc main_arg16) : Vec Ideal S32x32 .f32) (ix2 k c') := by
  show (StableHlo.after hostOps0 (W0 m ρ c) (Proc.devRef .tc main_v4) : Vec Ideal S32x64 .f32) _ = _
  after_results
  pointwise []
/-- An entry of the array `main_v4` (right half) is the matching entry of `main_arg17`. -/
theorem at_v4b (k c' : Fin 32) : (V1 m ρ c main_v4 : Vec Ideal S32x64 .f32) (ix2 k ⟨32 + c'.val, by omega⟩) =
    (m ((c.tc : Thread nD τ).loc main_arg17) : Vec Ideal S32x32 .f32) (ix2 k c') := by
  show (StableHlo.after hostOps0 (W0 m ρ c) (Proc.devRef .tc main_v4) : Vec Ideal S32x64 .f32) _ = _
  after_results
  pointwise []
/-- An entry of the array `main_v16` is the matching entry of `main_arg29`. -/
theorem at_v16 (k : Fin 32) : (V1 m ρ c main_v16 : Vec Ideal S1x32 .f32) (ix2 0 k) =
    (m ((c.tc : Thread nD τ).loc main_arg29) : Vec Ideal S32x1 .f32) (ix2 k 0) := by
  show (StableHlo.after hostOps0 (W0 m ρ c) (Proc.devRef .tc main_v16) : Vec Ideal S1x32 .f32) (ix2 0 k) = _
  after_results
  pointwise []
/-- An entry of the array `main_v17` is the matching entry of `main_arg30`. -/
theorem at_v17 : (V1 m ρ c main_v17 : Vec Ideal S1x1 .f32) (ix2 0 0) =
    (m ((c.tc : Thread nD τ).loc main_arg30) : Vec Ideal S1 .f32) (ix1 0) := by
  show (StableHlo.after hostOps0 (W0 m ρ c) (Proc.devRef .tc main_v17) : Vec Ideal S1x1 .f32) (ix2 0 0) = _
  after_results
  pointwise []
/-- An entry of the array `main_v18` is the matching entry of `main_arg0`. -/
theorem at_v18 (s i ch k : Fin 64) : (V1 m ρ c main_v18 : Vec Ideal S64x64x4096 .f32) (ix3 s i ⟨ch.val * 64 + k.val, by omega⟩) =
    (m ((c.tc : Thread nD τ).loc main_arg0) : Vec Ideal S64x64x64x64 .f32) (ix4 s i ch k) := by
  show (StableHlo.after hostOps0 (W0 m ρ c) (Proc.devRef .tc main_v18) : Vec Ideal S64x64x4096 .f32) _ = _
  after_results
  have h1 : (ch.val * 64 + k.val) / 64 = ch.val := by omega
  have h2 : (ch.val * 64 + k.val) % 64 = k.val := by omega
  pointwise [h1, h2]

/-- An argument keeps its contents. -/
theorem at_arg (a : Ref sig .tc) (h : a ∈ argRefs) : V1 m ρ c a = m ((c.tc : Thread nD τ).loc a) := W1_args m ρ c a h

/-- The weights from the launch contents. -/
def wM : Cert.Graph.Weights := Cert.Graph.weights (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))

/-- The weights the first call reads are those of the launch contents. -/
theorem wV_eq : wV (V1 m ρ) c = wM m c := by
  unfold wV wts wM Cert.Graph.weights
  rw [Cert.Graph.Weights.mk.injEq]
  exact ⟨funext fun k => funext fun c' => congrFun (at_arg m ρ c main_arg3 (by decide)) (ix2 k c'),
    funext fun k => at_v0 m ρ c k,
    funext fun k => funext fun c' => congrFun (at_arg m ρ c main_arg5 (by decide)) (ix2 k c'),
    funext fun k => funext fun c' => at_v1a m ρ c k c',
    funext fun k => funext fun c' => at_v1b m ρ c k c',
    funext fun k => funext fun c' => at_v3a m ρ c k c',
    funext fun k => funext fun c' => at_v3b m ρ c k c',
    funext fun k => at_v5 m ρ c k,
    funext fun k => at_v7 m ρ c k,
    funext fun k => at_v8 m ρ c k,
    funext fun k => funext fun c' => congrFun (at_arg m ρ c main_arg13 (by decide)) (ix2 k c'),
    funext fun k => funext fun c' => at_v2a m ρ c k c',
    funext fun k => funext fun c' => at_v2b m ρ c k c',
    funext fun k => funext fun c' => at_v4a m ρ c k c',
    funext fun k => funext fun c' => at_v4b m ρ c k c',
    funext fun k => at_v6 m ρ c k,
    funext fun k => at_v9 m ρ c k,
    funext fun k => at_v10 m ρ c k,
    funext fun k => funext fun c' => congrFun (at_arg m ρ c main_arg21 (by decide)) (ix2 k c'),
    funext fun k => at_v11 m ρ c k,
    funext fun k => funext fun c' => congrFun (at_arg m ρ c main_arg23 (by decide)) (ix2 k c'),
    funext fun k => at_v12 m ρ c k,
    funext fun k => at_v13 m ρ c k,
    funext fun k => at_v14 m ρ c k⟩

/-- Region 0's outputs on channel `ch` of row `s`. -/
theorem gV_eq (ch s : Fin 64) (h : Fin 32) :
    gV (V1 m ρ) c ch s h =
      Cert.Graph.net (wM m c) (Cert.Graph.graph (m ((c.tc : Thread nD τ).loc main_arg0)) s ch) h := by
  unfold gV
  rw [wV_eq]
  exact congrArg (fun x => Cert.Graph.net _ x h) (funext fun i => funext fun k => at_v18 m ρ c s i ch k)

/-- The first call leaves its result array in `main_v19`. -/
theorem v19_eq : (W2 m ρ c (Proc.devRef .tc main_v19) : Vec Ideal S64x64x32 .f32) = G0 (V1 m ρ) c :=
  (W2_arr m ρ c 21).trans (arr0 (V1 m ρ) c)

/-- A row of the second call's input: the graph outputs of all channels, side by side. -/
theorem v21_at (s : Fin 64) (d : Fin 2048) : (V3 m ρ c main_v21 : Vec Ideal S64x2048 .f32) (ix2 s d) =
    Cert.Graph.net (wM m c) (Cert.Graph.graph (m ((c.tc : Thread nD τ).loc main_arg0)) s ⟨d.val / 32, by omega⟩)
      ⟨d.val % 32, by omega⟩ := by
  rw [← gV_eq m ρ c]
  show (StableHlo.after hostOps1 (W2 m ρ c) (Proc.devRef .tc main_v21) : Vec Ideal S64x2048 .f32) _ = _
  after_results
  rw [v19_eq]
  pointwise [G0]

/-- What region 1 reads is what the first host line left. -/
theorem keep (a : Ref sig .tc) (h1 : a ∉ hostOps1_W)
    (h2 : ∀ w : Fin cfg0.W, Pipeline.arrRef spec0 w = a → (cfg0.win w).isOut = false) : V3 m ρ c a = V1 m ρ c a :=
  (W3_of m ρ c a h1).trans (W2_of m ρ c a h2)

/-- The decoder depends only on the values of its arguments. -/
theorem decode_congr {u u' : Fin 2048 → EReal} {w w' : Fin 2048 → Fin 32 → EReal} {b b' v v' : Fin 32 → EReal}
    {z z' : EReal} (hu : ∀ d, u d = u' d) (hw : ∀ d k, w d k = w' d k) (hb : ∀ k, b k = b' k) (hv : ∀ k, v k = v' k)
    (hz : z = z') : Cert.Graph.decode u w b v z = Cert.Graph.decode u' w' b' v' z' := by
  obtain rfl : u = u' := funext hu
  obtain rfl : w = w' := funext fun d => funext (hw d)
  obtain rfl : b = b' := funext hb
  obtain rfl : v = v' := funext hv
  rw [hz]

/-- The kernel's result. -/
theorem value : (W5 m ρ c (Proc.devRef .tc main_v24) : Vec Ideal S64 .f32) = fun j =>
    Cert.Graph.answer (wM m c) (m ((c.tc : Thread nD τ).loc main_arg0)) (m ((c.tc : Thread nD τ).loc main_arg27)) (m ((c.tc : Thread nD τ).loc main_arg28)) (m ((c.tc : Thread nD τ).loc main_arg29)) (m ((c.tc : Thread nD τ).loc main_arg30)) (j 0) := by
  funext j
  obtain ⟨s, rfl⟩ : ∃ s : Fin 64, j = ix1 s := ⟨j 0, eq_ix1 j⟩
  show (StableHlo.after hostOps2 (W4 m ρ c) (Proc.devRef .tc main_v24) : Vec Ideal S64 .f32) _ = _
  after_results
  rw [show (W4 m ρ c (Proc.devRef .tc main_v22) : Vec Ideal S64x128 .f32) = (dat1 (V3 m ρ) c).arrAt 5 cfg1.N from W4_arr m ρ c 5]
  have h := arr1 (V3 m ρ) c s 0
  refine Eq.trans ?_ (h.trans ?_)
  · pointwise []
  · refine decode_congr (fun d => v21_at m ρ c s d) (fun d k => ?_) (fun k => ?_) (fun k => ?_) ?_
    · rw [keep m ρ c main_arg27 (by decide) (by decide)]
      exact congrFun (at_arg m ρ c main_arg27 (by decide)) _
    · rw [keep m ρ c main_v15 (by decide) (by decide)]
      exact at_v15 m ρ c k
    · rw [keep m ρ c main_v16 (by decide) (by decide)]
      exact at_v16 m ρ c k
    · rw [keep m ρ c main_v17 (by decide) (by decide)]
      exact at_v17 m ρ c

end Cert.KernelIdeal.Graphs

end

end
-- ==== Proof.ROps.lean ====
/-
  Entries of the reference's selection of a row's largest entries and of its reading of the diagonal.
-/
module

public import proofs.«01_k».proof.ReferenceIdeal
public import proofs.«01_k».proof.Proof.Spec
public import Idealize.ShloMosaic.Lib.Pointwise

@[expose] public section

set_option maxRecDepth 16384

noncomputable section

namespace Cert.ReferenceIdeal.Graphs

open Idealize.ShloMosaic Idealize.ShloMosaic.TcCoe Idealize.SL.Sem Cert.ReferenceIdeal Cert.ReferenceIdeal.Facts₀

variable [Facts₀]

/-- The `k`-th of the eight greatest entries of a row is the `k`-th entry of the row sorted downwards. -/
theorem topK_at (x : FVec Ideal S4096x64x64 .f32) (n : Fin 4096) (i : Fin 64) (k : Fin 8) :
    (Host.topK S4096x64x8 2 (FloatOps.cmpfTotal (F := Ideal) .gt) x sliceFits_S4096x64x64_S4096x64x8).1 (ix3 n i k) =
      Cert.Graph.sorted (fun j => x (ix3 n i j)) ⟨k.val, by omega⟩ := by
  have hal : ∀ j : Fin 64, Shape.Idx.along (s := S4096x64x64)
      (ix3 n i ⟨k.val, by omega⟩) (2 : Fin 3) j = ix3 n i j := by
    intro j
    funext a
    match a with
    | ⟨0, _⟩ => rfl
    | ⟨1, _⟩ => rfl
    | ⟨2, _⟩ => rfl
  have hsl : (extractStridedSlice S4096x64x8 (fun _ => 0)
      (fun j : S4096x64x64.Idx => x (j.along (2 : Fin 3) (sortedFrom (fun k k' =>
        FloatOps.cmpfTotal (F := Ideal) .gt (x (j.along (2 : Fin 3) k)) (x (j.along (2 : Fin 3) k')) == 1#1) (j (2 : Fin 3)))))
      sliceFits_S4096x64x64_S4096x64x8) (ix3 n i k) =
      Cert.Graph.sorted (fun j => x (ix3 n i j)) ⟨k.val, by omega⟩ := by
    have hi : ∀ y : S4096x64x64.Idx → EReal, extractStridedSlice S4096x64x8 (fun _ => 0) y
        sliceFits_S4096x64x64_S4096x64x8 (ix3 n i k) = y (ix3 n i ⟨k.val, by omega⟩) := by
      intro y
      pointwise []
    refine (hi _).trans ?_
    refine (congrArg x (hal _)).trans ?_
    refine congrArg (fun f : Fin 64 → Fin 64 → Bool => x (ix3 n i (sortedFrom f ⟨k.val, by omega⟩))) ?_
    funext a b
    exact congrArg₂ (fun u v => FloatOps.cmpfTotal (F := Ideal) .gt (x u) (x v) == 1#1) (hal a) (hal b)
  exact hsl

/-- The gather of the diagonal of each matrix. -/
theorem diag_at (x : FVec Ideal S4096x64x64 .f32) (idx : IVec S64x2 32)
    (h0 : ∀ i : Fin 64, idx (ix2 i 0) = BitVec.ofNat 32 i.val)
    (h1 : ∀ i : Fin 64, idx (ix2 i 1) = BitVec.ofNat 32 i.val) (n : Fin 4096) (i : Fin 64) :
    Host.gather gather_S4096x64x64_S64x2_S4096x64_0_12_n_n_12_1_409611 x idx (ix2 n i) = x (ix3 n i i) := by
  have hi : ((BitVec.ofNat 32 i.val).toInt.toNat) = i.val := by
    have := i.isLt
    rw [BitVec.toInt_eq_toNat_of_lt] <;> simp <;> omega
  unfold Host.gather
  refine congrArg x (funext fun a => Fin.ext ?_)
  show GatherDims.start _ (ix2 n i) idx a + GatherDims.batchCoord _ (ix2 n i) a + GatherDims.offCoord _ (ix2 n i) a = _
  rw [GatherDims.batchCoord_eq_zero _ _ _ List.not_mem_nil]
  match a with
  | ⟨0, _⟩ =>
    unfold GatherDims.start GatherDims.offCoord
    rw [dif_neg (by show ¬ (0 : Fin 3) ∈ [1, 2]; decide), dif_pos (by show (0 : Fin 3) ∈ S4096x64x64.kept ([1, 2] ++ []); decide)]
    simp only [Nat.zero_add]
    rfl
  | ⟨1, _⟩ =>
    unfold GatherDims.start
    rw [dif_pos (by show (1 : Fin 3) ∈ [1, 2]; decide),
      GatherDims.offCoord_eq_zero _ _ _ (by show ¬ (1 : Fin 3) ∈ S4096x64x64.kept ([1, 2] ++ []); decide)]
    have hs : GatherDims.siIdx gather_S4096x64x64_S64x2_S4096x64_0_12_n_n_12_1_409611 (ix2 n i) ⟨0, by show 0 < 2; decide⟩ = ix2 i 0 := by
      funext b
      match b with
      | ⟨0, _⟩ => rfl
      | ⟨1, _⟩ => rfl
    show min (idx (GatherDims.siIdx gather_S4096x64x64_S64x2_S4096x64_0_12_n_n_12_1_409611 (ix2 n i) ⟨0, by show 0 < 2; decide⟩)).toInt.toNat (64 - 1) + 0 + 0 = i.val
    rw [hs, h0, hi]
    omega
  | ⟨2, _⟩ =>
    unfold GatherDims.start
    rw [dif_pos (by show (2 : Fin 3) ∈ [1, 2]; decide),
      GatherDims.offCoord_eq_zero _ _ _ (by show ¬ (2 : Fin 3) ∈ S4096x64x64.kept ([1, 2] ++ []); decide)]
    have hs : GatherDims.siIdx gather_S4096x64x64_S64x2_S4096x64_0_12_n_n_12_1_409611 (ix2 n i) ⟨1, by show 1 < 2; decide⟩ = ix2 i 1 := by
      funext b
      match b with
      | ⟨0, _⟩ => rfl
      | ⟨1, _⟩ => rfl
    show min (idx (GatherDims.siIdx gather_S4096x64x64_S64x2_S4096x64_0_12_n_n_12_1_409611 (ix2 n i) ⟨1, by show 1 < 2; decide⟩)).toInt.toNat (64 - 1) + 0 + 0 = i.val
    rw [hs, h1, hi]
    omega

end Cert.ReferenceIdeal.Graphs

end

end
-- ==== Proof.RFun.lean ====
/-
  The reference's stages as functions of arbitrary arrays, with the entries of each.
-/
module

public import proofs.«01_k».proof.Proof.ROps

@[expose] public section

set_option maxRecDepth 16384

noncomputable section

namespace Cert.ReferenceIdeal.Graphs

open Idealize.ShloMosaic Idealize.ShloMosaic.TcCoe Idealize.SL.Sem Cert.ReferenceIdeal Cert.ReferenceIdeal.Facts₀

variable [Facts₀]

/-- Multiplying by one less the identity matrix's entry. -/
theorem one_sub_eye (x : EReal) (i j : Fin 64) :
    x * (1 - FloatOps.uitofp (F := Ideal) .f32 (IntOp.cmpi .eq (IntOp.addi (BitVec.ofNat 32 i.val) 0#32) (BitVec.ofNat 32 j.val))) =
      if i = j then 0 else x := by
  have hij : BitVec.ofNat 32 i.val = BitVec.ofNat 32 j.val ↔ i = j := by
    constructor
    · intro h
      have := congrArg BitVec.toNat h
      simp at this
      exact Fin.ext (by omega)
    · rintro rfl; rfl
  rw [← Cert.Graph.mul_one_sub_diag x (i = j)]
  refine congrArg (fun u => x * (1 - u)) ?_
  show ((((IntOp.cmpi .eq (BitVec.ofNat 32 i.val + 0#32) (BitVec.ofNat 32 j.val)).toNat : ℝ)) : EReal) = _
  rw [BitVec.add_zero]
  by_cases h : i = j
  · subst h
    simp [IntOp.cmpi]
  · have : BitVec.ofNat 32 i.val ≠ BitVec.ofNat 32 j.val := fun e => h (hij.1 e)
    simp [IntOp.cmpi, h, this]

/-- The divisor of the variance is 32. -/
theorem sub_zero_32 : Ideal.ofBits .f32 0x42000000#32 - FloatOps.sitofp (F := Ideal) .f32 (0#32) = Ideal.ofBits .f32 0x42000000#32 := by
  show Ideal.ofBits .f32 0x42000000#32 - ((((0#32 : BitVec 32).toInt : ℝ)) : EReal) = _
  simp

/-- The divisor of the variance is positive. -/
theorem pos_32 : (0 : EReal) < Ideal.ofBits .f32 0x42000000#32 := by
  rw [Cert.Graph.ofBits_32]
  exact_mod_cast (by norm_num : (0 : ℝ) < 32)

/-- A row's eighth greatest distinct score is at most its greatest. -/
theorem thr_le (r : Fin 64 → EReal) (h : Cert.Graph.Distinct r) : Cert.Graph.thr r ≤ Cert.Graph.rowMax r := by
  rw [Cert.Graph.thr_eq _ h, Cert.Graph.rowMax_eq]
  exact Cert.Graph.sorted_anti _ (by decide)

/-- The maximum along the rows of a stack of matrices. -/
theorem rmax_at (x : FVec Ideal S4096x64x64 .f32) (n : Fin 4096) (i : Fin 64) :
    Host.reduce FloatOps.maximumf x (constant (F := Ideal) S_ .f32 0xFF800000#32) reducesTo_S4096x64x64_S4096x64_d2 h_S_ (ix2 n i) =
      Cert.Graph.rowMax fun j => x (ix3 n i j) := by
  rw [Host.reduce_eq_fold, Shape.ReducesTo.fold_fiber_r3_a2]
  unfold Cert.Graph.rowMax
  exact congrArg (fun b => Finset.fold max b _ _) Cert.Graph.ofBits_negInf

/-- The scores of all nodes of all graphs. -/
def rScore (x : FVec Ideal S4096x64x32 .f32) (e : FVec Ideal S64x32 .f32) (q k : FVec Ideal S32x32 .f32) : FVec Ideal S4096x64x64 .f32 :=
  Host.divf (Host.dotGeneral dot_S4096x64x32_S4096x64x32_S4096x64x64_2_2_1_1_0_0 none (Host.dotGeneral dot_S4096x64x32_S32x32_S4096x64x32_2_0_01_1_n_n none (addf x (broadcastInDim S4096x64x32 ![0, 1, 2] bcast_S1x64x32_S4096x64x32_0_1_2 (broadcastInDim S1x64x32 ![1, 2] bcast_S64x32_S1x64x32_1_2 e))) q) (Host.dotGeneral dot_S4096x64x32_S32x32_S4096x64x32_2_0_01_1_n_n none (addf x (broadcastInDim S4096x64x32 ![0, 1, 2] bcast_S1x64x32_S4096x64x32_0_1_2 (broadcastInDim S1x64x32 ![1, 2] bcast_S64x32_S1x64x32_1_2 e))) k)) (broadcastInDim S4096x64x64 ![] bcast_S_S4096x64x64 (Host.sqrt (constant S_ .f32 0x42000000#32)))

/-- The scores at least the eighth greatest of their row, the others sent to −∞. -/
def rKeep (x : FVec Ideal S4096x64x64 .f32) : FVec Ideal S4096x64x64 .f32 :=
  select (cmpf .oge x (broadcastInDim S4096x64x64 ![0, 1, 2] bcast_S4096x64x1_S4096x64x64_0_1_2 (extractStridedSlice S4096x64x1 ![0, 0, 7] ((Host.topK S4096x64x8 2 (FloatOps.cmpfTotal .gt) x sliceFits_S4096x64x64_S4096x64x8).1) slices_S4096x64x8_S4096x64x1_0_0_7))) x (broadcastInDim S4096x64x64 ![] bcast_S_S4096x64x64 (id (constant S_ .f32 0xFF800000#32)))

/-- The exponentials of a stack of matrices, each row shifted by its greatest entry. -/
def rExp (x : FVec Ideal S4096x64x64 .f32) : FVec Ideal S4096x64x64 .f32 :=
  Host.exp (subf x (broadcastInDim S4096x64x64 ![0, 1, 2] bcast_S4096x64x1_S4096x64x64_0_1_2 (broadcastInDim S4096x64x1 ![0, 1] bcast_S4096x64_S4096x64x1_0_1 (maximumf (broadcastInDim S4096x64 ![] bcast_S_S4096x64 (constant S_ .f32 0xFF800000#32)) (Host.reduce FloatOps.maximumf x (constant S_ .f32 0xFF800000#32) reducesTo_S4096x64x64_S4096x64_d2 h_S_)))))

/-- A stack of matrices, each row divided by its sum. -/
def rShare (x : FVec Ideal S4096x64x64 .f32) : FVec Ideal S4096x64x64 .f32 :=
  Host.divf x (broadcastInDim S4096x64x64 ![0, 1, 2] bcast_S4096x64x1_S4096x64x64_0_1_2 (broadcastInDim S4096x64x1 ![0, 1] bcast_S4096x64_S4096x64x1_0_1 (Host.reduceAdd x (constant S_ .f32 0x00000000#32) reducesTo_S4096x64x64_S4096x64_d2 h_S_)))

/-- The graph convolution. -/
def rConv (x : FVec Ideal S4096x64x32 .f32) (a : FVec Ideal S4096x64x64 .f32) (g s : FVec Ideal S32x32 .f32) (c : FVec Ideal S32 .f32) : FVec Ideal S4096x64x32 .f32 :=
  addf x (maximumf (addf (addf (Host.dotGeneral dot_S4096x64x64_S4096x64x32_S4096x64x32_2_1_1_2_0_0 none (mulf a (broadcastInDim S4096x64x64 ![0, 1, 2] bcast_S1x64x64_S4096x64x64_0_1_2 (broadcastInDim S1x64x64 ![1, 2] bcast_S64x64_S1x64x64_1_2 (subf (broadcastInDim S64x64 ![] bcast_S_S64x64 (constant S_ .f32 0x3F800000#32)) (uitofp .f32 (cmpi .eq (addi (iotaInDim S64x64 32 0) (broadcastInDim S64x64 ![] bcast_S_S64x64 (constantI S_ 32 0#32))) (iotaInDim S64x64 32 1))))))) (Host.dotGeneral dot_S4096x64x32_S32x32_S4096x64x32_2_0_01_1_n_n none x g)) (mulf (broadcastInDim S4096x64x32 ![0, 1, 2] bcast_S4096x64x1_S4096x64x32_0_1_2 (broadcastInDim S4096x64x1 ![0, 1] bcast_S4096x64_S4096x64x1_0_1 (Host.gather gather_S4096x64x64_S64x2_S4096x64_0_12_n_n_12_1_409611 a (concatenate S64x2 1 [⟨S64x1, (broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0)))⟩, ⟨S64x1, (broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0)))⟩] concatenates_S64x1_S64x1_S64x2_d1)))) (Host.dotGeneral dot_S4096x64x32_S32x32_S4096x64x32_2_0_01_1_n_n none x s))) (broadcastInDim S4096x64x32 ![0, 1, 2] bcast_S1x1x32_S4096x64x32_0_1_2 (broadcastInDim S1x1x32 ![2] bcast_S32_S1x1x32_2 c))) (broadcastInDim S4096x64x32 ![] bcast_S_S4096x64x32 (constant S_ .f32 0x00000000#32)))

/-- The features less their mean. -/
def rCentre (x : FVec Ideal S4096x64x32 .f32) : FVec Ideal S4096x64x32 .f32 :=
  subf x (broadcastInDim S4096x64x32 ![0, 1, 2] bcast_S4096x64x1_S4096x64x32_0_1_2 (Host.divf (broadcastInDim S4096x64x1 ![0, 1] bcast_S4096x64_S4096x64x1_0_1 (Host.reduceAdd x (constant S_ .f32 0x00000000#32) reducesTo_S4096x64x32_S4096x64_d2 h_S_)) (broadcastInDim S4096x64x1 ![] bcast_S_S4096x64x1 (constant S_ .f32 0x42000000#32))))

/-- The divisor of the variance. -/
def rDiv : FVec Ideal S_ .f32 :=
  subf (constant S_ .f32 0x42000000#32) (sitofp .f32 (constantI S_ 32 0#32))

/-- The norm over the features. -/
def rNorm (x : FVec Ideal S4096x64x32 .f32) (g b : FVec Ideal S32 .f32) : FVec Ideal S4096x64x32 .f32 :=
  addf (mulf (Host.divf (subf x (broadcastInDim S4096x64x32 ![0, 1, 2] bcast_S4096x64x1_S4096x64x32_0_1_2 (Host.divf (broadcastInDim S4096x64x1 ![0, 1] bcast_S4096x64_S4096x64x1_0_1 (Host.reduceAdd x (constant S_ .f32 0x00000000#32) reducesTo_S4096x64x32_S4096x64_d2 h_S_)) (broadcastInDim S4096x64x1 ![] bcast_S_S4096x64x1 (constant S_ .f32 0x42000000#32))))) (broadcastInDim S4096x64x32 ![0, 1, 2] bcast_S4096x64x1_S4096x64x32_0_1_2 (Host.sqrt (addf (select (broadcastInDim S4096x64x1 ![] bcast_S_S4096x64x1 (cmpf .ogt rDiv (constant S_ .f32 0x00000000#32))) (Host.divf (broadcastInDim S4096x64x1 ![0, 1] bcast_S4096x64_S4096x64x1_0_1 (Host.reduceAdd (mulf (rCentre x) (rCentre x)) (constant S_ .f32 0x00000000#32) reducesTo_S4096x64x32_S4096x64_d2 h_S_)) (broadcastInDim S4096x64x1 ![] bcast_S_S4096x64x1 rDiv)) (broadcastInDim S4096x64x1 ![] bcast_S_S4096x64x1 (id (constant S_ .f32 0x7FC00000#32)))) (broadcastInDim S4096x64x1 ![] bcast_S_S4096x64x1 (constant S_ .f32 0x3727C5AC#32)))))) (broadcastInDim S4096x64x32 ![0, 1, 2] bcast_S1x1x32_S4096x64x32_0_1_2 (broadcastInDim S1x1x32 ![2] bcast_S32_S1x1x32_2 g))) (broadcastInDim S4096x64x32 ![0, 1, 2] bcast_S1x1x32_S4096x64x32_0_1_2 (broadcastInDim S1x1x32 ![2] bcast_S32_S1x1x32_2 b))

/-- The scores, at an entry. -/
theorem rScore_at (x : FVec Ideal S4096x64x32 .f32) (e : FVec Ideal S64x32 .f32) (q k : FVec Ideal S32x32 .f32) (n : Fin 4096) (i j : Fin 64) :
    rScore x e q k (ix3 n i j) = Cert.Graph.score (fun i c => x (ix3 n i c)) (fun i c => e (ix2 i c)) (fun l c => q (ix2 l c)) (fun l c => k (ix2 l c)) i j := by
  unfold rScore
  pointwise [Cert.Graph.score, Cert.Graph.div_sqrt_32]

/-- The kept scores, at an entry. -/
theorem rKeep_at (x : FVec Ideal S4096x64x64 .f32) (n : Fin 4096) (i j : Fin 64) (h : Cert.Graph.Distinct fun j => x (ix3 n i j)) :
    rKeep x (ix3 n i j) = Cert.Graph.masked (fun j => x (ix3 n i j)) (Cert.Graph.thr fun j => x (ix3 n i j)) j := by
  unfold rKeep
  pointwise [topK_at, Cert.Graph.masked, Cert.Graph.thr_eq _ h, id_eq, Cert.Graph.ofBits_negInf]

/-- The exponentials, at an entry. -/
theorem rExp_at (x : FVec Ideal S4096x64x64 .f32) (n : Fin 4096) (i j : Fin 64) :
    rExp x (ix3 n i j) = Ideal.exp ((x (ix3 n i j) : EReal) - max ⊥ (Cert.Graph.rowMax fun j => x (ix3 n i j))) := by
  have key : ∀ y : FVec Ideal S4096x64 .f32,
      (Host.exp (subf x (broadcastInDim S4096x64x64 ![0, 1, 2] bcast_S4096x64x1_S4096x64x64_0_1_2 (broadcastInDim S4096x64x1 ![0, 1] bcast_S4096x64_S4096x64x1_0_1 (maximumf (broadcastInDim S4096x64 ![] bcast_S_S4096x64 (constant S_ .f32 0xFF800000#32)) y)))) : FVec Ideal S4096x64x64 .f32) (ix3 n i j) =
        Ideal.exp ((x (ix3 n i j) : EReal) - max ⊥ (y (ix2 n i) : EReal)) := by
    intro y
    pointwise [Cert.Graph.ofBits_negInf]
  refine (key _).trans ?_
  exact congrArg (fun r : EReal => Ideal.exp ((x (ix3 n i j) : EReal) - max ⊥ r)) (rmax_at x n i)

/-- The shares, at an entry. -/
theorem rShare_at (x : FVec Ideal S4096x64x64 .f32) (n : Fin 4096) (i j : Fin 64) :
    rShare x (ix3 n i j) = Ideal.div (x (ix3 n i j)) (∑ j, x (ix3 n i j)) := by
  unfold rShare
  pointwise []

/-- The weights of a row of distinct leading scores. -/
theorem attn_at (x : FVec Ideal S4096x64x64 .f32) (n : Fin 4096) (i j : Fin 64) (h : Cert.Graph.Distinct fun j => x (ix3 n i j)) :
    rShare (rExp (rKeep x)) (ix3 n i j) = Cert.Graph.attn (fun j => x (ix3 n i j)) (Cert.Graph.thr fun j => x (ix3 n i j)) j := by
  have hk : ∀ j, rKeep x (ix3 n i j) = Cert.Graph.masked (fun j => x (ix3 n i j)) (Cert.Graph.thr fun j => x (ix3 n i j)) j :=
    fun j => rKeep_at x n i j h
  have hw : ∀ j, rExp (rKeep x) (ix3 n i j) = Cert.Graph.wgt (fun j => x (ix3 n i j)) (Cert.Graph.thr fun j => x (ix3 n i j)) j := by
    intro j
    rw [rExp_at, funext hk, hk]
    exact Cert.Graph.exp_masked _ _ (thr_le _ h) j
  rw [rShare_at, hw]
  exact congrArg _ (Finset.sum_congr rfl fun j _ => hw j)

/-- The index a node's diagonal weight is read at. -/
theorem pick_eq (i : Fin 64) :
    Scalar.select (IntOp.cmpi .slt (BitVec.ofNat 32 i.val) 0#32) (IntOp.addi (BitVec.ofNat 32 i.val) 64#32) (BitVec.ofNat 32 i.val) =
      BitVec.ofNat 32 i.val := by
  revert i
  decide

/-- The convolution, at an entry. -/
theorem rConv_at (x : FVec Ideal S4096x64x32 .f32) (a : FVec Ideal S4096x64x64 .f32) (g s : FVec Ideal S32x32 .f32) (c : FVec Ideal S32 .f32) (n : Fin 4096) (i : Fin 64) (d : Fin 32) :
    rConv x a g s c (ix3 n i d) =
      Cert.Graph.conv (fun i c => x (ix3 n i c)) (fun i j => a (ix3 n i j)) (fun l c => g (ix2 l c)) (fun l c => s (ix2 l c)) (fun d => c (ix1 d)) i d := by
  unfold rConv
  pointwise [Cert.Graph.conv, one_sub_eye]
  rw [diag_at]
  · intro i
    pointwise [pick_eq]
  · intro i
    pointwise [pick_eq]

/-- The norm, at an entry. -/
theorem rNorm_at (x : FVec Ideal S4096x64x32 .f32) (g b : FVec Ideal S32 .f32) (n : Fin 4096) (i : Fin 64) (c : Fin 32) :
    rNorm x g b (ix3 n i c) = Cert.Graph.norm (fun c => x (ix3 n i c)) (fun c => g (ix1 c)) (fun c => b (ix1 c)) c := by
  unfold rNorm rCentre rDiv
  pointwise [id_eq, sub_zero_32, pos_32]
  exact Cert.Graph.norm_div (fun c => x (ix3 n i c)) (fun c => g (ix1 c)) (fun c => b (ix1 c)) c

end Cert.ReferenceIdeal.Graphs

end

end
-- ==== Proof.RNet.lean ====
/-
  The reference's stages composed: each graph of the batch goes through the network of `Net`.
-/
module

public import proofs.«01_k».proof.Proof.RFun
public import proofs.«01_k».proof.Proof.Net

@[expose] public section

set_option maxRecDepth 16384

noncomputable section

namespace Cert.ReferenceIdeal.Graphs

open Idealize.ShloMosaic Idealize.ShloMosaic.TcCoe Idealize.SL.Sem Cert.ReferenceIdeal Cert.ReferenceIdeal.Facts₀

variable [Facts₀]

/-- The projected features of all nodes of all graphs. -/
def rProj (a : FVec Ideal S64x64x64x64 .f32) (w : FVec Ideal S64x32 .f32) (b : FVec Ideal S32 .f32) : FVec Ideal S4096x64x32 .f32 :=
  shapeCast _ (transpose S64x64x64x32 [0, 2, 1, 3] (addf (Host.dotGeneral dot_S64x64x64x64_S64x32_S64x64x64x32_3_0_012_1_n_n none a w) (broadcastInDim S64x64x64x32 ![0, 1, 2, 3] bcast_S1x1x1x32_S64x64x64x32_0_1_2_3 (broadcastInDim S1x1x1x32 ![3] bcast_S32_S1x1x1x32_3 b))) transposes_S64x64x64x32_S64x64x64x32_0_2_1_3) shapeCasts_S64x64x64x32_S4096x64x32

/-- A layer on all graphs. -/
def rLayer (x : FVec Ideal S4096x64x32 .f32) (e : FVec Ideal S64x32 .f32) (q k g s : FVec Ideal S32x32 .f32) (c l m : FVec Ideal S32 .f32) : FVec Ideal S4096x64x32 .f32 :=
  rNorm (rConv x (rShare (rExp (rKeep (rScore x e q k)))) g s c) l m

/-- The widened features of the feed-forward block. -/
def rUp (x : FVec Ideal S4096x64x32 .f32) (w : FVec Ideal S32x128 .f32) (b : FVec Ideal S128 .f32) : FVec Ideal S4096x64x128 .f32 :=
  addf (Host.dotGeneral dot_S4096x64x32_S32x128_S4096x64x128_2_0_01_1_n_n none x w) (broadcastInDim S4096x64x128 ![0, 1, 2] bcast_S1x1x128_S4096x64x128_0_1_2 (broadcastInDim S1x1x128 ![2] bcast_S128_S1x1x128_2 b))

/-- The feed-forward block on all graphs. -/
def rFfn (x : FVec Ideal S4096x64x32 .f32) (w : FVec Ideal S32x128 .f32) (b : FVec Ideal S128 .f32) (w2 : FVec Ideal S128x32 .f32) (b2 : FVec Ideal S32 .f32) : FVec Ideal S4096x64x32 .f32 :=
  addf x (addf (Host.dotGeneral dot_S4096x64x128_S128x32_S4096x64x32_2_0_01_1_n_n none (mulf (rUp x w b) (mulf (broadcastInDim S4096x64x128 ![] bcast_S_S4096x64x128 (constant S_ .f32 0x3F000000#32)) (addf (broadcastInDim S4096x64x128 ![] bcast_S_S4096x64x128 (constant S_ .f32 0x3F800000#32)) (Host.tanh (mulf (broadcastInDim S4096x64x128 ![] bcast_S_S4096x64x128 (constant S_ .f32 0x3F4C422A#32)) (addf (rUp x w b) (mulf (broadcastInDim S4096x64x128 ![] bcast_S_S4096x64x128 (constant S_ .f32 0x3D372713#32)) (mulf (mulf (rUp x w b) (rUp x w b)) (rUp x w b))))))))) w2) (broadcastInDim S4096x64x32 ![0, 1, 2] bcast_S1x1x32_S4096x64x32_0_1_2 (broadcastInDim S1x1x32 ![2] bcast_S32_S1x1x32_2 b2)))

/-- The decoder's first product: of the graphs' outputs, 64 graphs to a row. -/
def rMix (x : FVec Ideal S4096x64x32 .f32) (w : FVec Ideal S2048x32 .f32) (b : FVec Ideal S32 .f32) : FVec Ideal S64x32 .f32 :=
  addf (Host.dotGeneral dot_S64x2048_S2048x32_S64x32_1_0_0_1_n_n none (shapeCast _ (Host.tanh (Host.divf (Host.reduceAdd x (constant S_ .f32 0x00000000#32) reducesTo_S4096x64x32_S4096x32_d1 h_S_) (broadcastInDim S4096x32 ![] bcast_S_S4096x32 (constant S_ .f32 0x42800000#32)))) shapeCasts_S4096x32_S64x2048) w) (broadcastInDim S64x32 ![0, 1] bcast_S1x32_S64x32_0_1 (broadcastInDim S1x32 ![1] bcast_S32_S1x32_1 b))

/-- The decoder's second product. -/
def rOut (x : FVec Ideal S64x32 .f32) (w : FVec Ideal S32x1 .f32) (b : FVec Ideal S1 .f32) : FVec Ideal S64 .f32 :=
  shapeCast _ (addf (Host.dotGeneral dot_S64x32_S32x1_S64x1_1_0_0_1_n_n none (mulf x (mulf (broadcastInDim S64x32 ![] bcast_S_S64x32 (constant S_ .f32 0x3F000000#32)) (addf (broadcastInDim S64x32 ![] bcast_S_S64x32 (constant S_ .f32 0x3F800000#32)) (Host.tanh (mulf (broadcastInDim S64x32 ![] bcast_S_S64x32 (constant S_ .f32 0x3F4C422A#32)) (addf x (mulf (broadcastInDim S64x32 ![] bcast_S_S64x32 (constant S_ .f32 0x3D372713#32)) (mulf (mulf x x) x)))))))) w) (broadcastInDim S64x1 ![0, 1] bcast_S1x1_S64x1_0_1 (broadcastInDim S1x1 ![1] bcast_S1_S1x1_1 b))) shapeCasts_S64x1_S64

/-- The projected features, at an entry. -/
theorem rProj_at (a : FVec Ideal S64x64x64x64 .f32) (w : FVec Ideal S64x32 .f32) (b : FVec Ideal S32 .f32) (n : Fin 4096) (i : Fin 64) (c : Fin 32) :
    rProj a w b (ix3 n i c) =
      Cert.Graph.proj (Cert.Graph.graph a ⟨n.val / 64, by omega⟩ ⟨n.val % 64, by omega⟩) (fun k c => w (ix2 k c)) (fun c => b (ix1 c)) i c := by
  unfold rProj
  pointwise [Cert.Graph.proj, Cert.Graph.graph]

/-- A layer, at an entry. -/
theorem rLayer_at (x : FVec Ideal S4096x64x32 .f32) (e : FVec Ideal S64x32 .f32) (q k g s : FVec Ideal S32x32 .f32) (c l m : FVec Ideal S32 .f32) (n : Fin 4096)
    (h : ∀ i, Cert.Graph.Distinct fun j => rScore x e q k (ix3 n i j)) (i : Fin 64) (d : Fin 32) :
    rLayer x e q k g s c l m (ix3 n i d) =
      Cert.Graph.layer (fun i c => x (ix3 n i c)) (fun i c => e (ix2 i c)) (fun l c => q (ix2 l c)) (fun l c => k (ix2 l c))
        (fun l c => g (ix2 l c)) (fun l c => s (ix2 l c)) (fun d => c (ix1 d)) (fun d => l (ix1 d)) (fun d => m (ix1 d)) i d := by
  have hs : ∀ i, (fun j => rScore x e q k (ix3 n i j)) =
      Cert.Graph.score (fun i c => x (ix3 n i c)) (fun i c => e (ix2 i c)) (fun l c => q (ix2 l c)) (fun l c => k (ix2 l c)) i :=
    fun i => funext fun j => rScore_at x e q k n i j
  have ha : (fun i j => rShare (rExp (rKeep (rScore x e q k))) (ix3 n i j)) = fun i =>
      Cert.Graph.attn (Cert.Graph.score (fun i c => x (ix3 n i c)) (fun i c => e (ix2 i c)) (fun l c => q (ix2 l c)) (fun l c => k (ix2 l c)) i)
        (Cert.Graph.thr (Cert.Graph.score (fun i c => x (ix3 n i c)) (fun i c => e (ix2 i c)) (fun l c => q (ix2 l c)) (fun l c => k (ix2 l c)) i)) := by
    funext i j
    rw [attn_at _ _ _ _ (h i), hs]
  unfold rLayer Cert.Graph.layer
  rw [rNorm_at]
  simp only [rConv_at, ha]

/-- The widened features, at an entry. -/
theorem rUp_at (x : FVec Ideal S4096x64x32 .f32) (w : FVec Ideal S32x128 .f32) (b : FVec Ideal S128 .f32) (n : Fin 4096) (i : Fin 64) (k : Fin 128) :
    (rUp x w b (ix3 n i k) : EReal) = (∑ d : Fin 32, (x (ix3 n i d) : EReal) * w (ix2 d k)) + b (ix1 k) := by
  unfold rUp
  pointwise []

/-- The feed-forward block, at an entry. -/
theorem rFfn_at (x : FVec Ideal S4096x64x32 .f32) (w : FVec Ideal S32x128 .f32) (b : FVec Ideal S128 .f32) (w2 : FVec Ideal S128x32 .f32) (b2 : FVec Ideal S32 .f32) (n : Fin 4096) (i : Fin 64) (c : Fin 32) :
    rFfn x w b w2 b2 (ix3 n i c) =
      Cert.Graph.ffn (fun c => x (ix3 n i c)) (fun d k => w (ix2 d k)) (fun k => b (ix1 k)) (fun k c => w2 (ix2 k c)) (fun c => b2 (ix1 c)) c := by
  unfold rFfn
  pointwise [rUp_at, Cert.Graph.ffn, Cert.Graph.gelu]

/-- The decoder's first product, at an entry. -/
theorem rMix_at (x : FVec Ideal S4096x64x32 .f32) (w : FVec Ideal S2048x32 .f32) (b : FVec Ideal S32 .f32) (s : Fin 64) (k : Fin 32) :
    (rMix x w b (ix2 s k) : EReal) =
      (∑ d : Fin 2048, Cert.Graph.head (fun i c => x (ix3 ⟨s.val * 64 + d.val / 32, by omega⟩ i c)) ⟨d.val % 32, by omega⟩ * w (ix2 d k)) + b (ix1 k) := by
  unfold rMix
  pointwise [Cert.Graph.head]

/-- The decoder's second product, at an entry. -/
theorem rOut_at (x : FVec Ideal S64x32 .f32) (w : FVec Ideal S32x1 .f32) (b : FVec Ideal S1 .f32) (s : Fin 64) :
    (rOut x w b (ix1 s) : EReal) = (∑ k : Fin 32, Cert.Graph.gelu (x (ix2 s k)) * w (ix2 k 0)) + b (ix1 0) := by
  unfold rOut
  pointwise [Cert.Graph.gelu]

end Cert.ReferenceIdeal.Graphs

end

end
-- ==== Proof.RVal.lean ====
/-
  The reference's result in terms of its arguments.
-/
module

public import proofs.«01_k».proof.Proof.Gen.ReferenceIdeal.Run
public import proofs.«01_k».proof.Proof.RNet

@[expose] public section

set_option maxRecDepth 16384

noncomputable section

namespace Cert.ReferenceIdeal.Graphs

open Idealize.ShloMosaic Idealize.ShloMosaic.TcCoe Idealize.SL.Sem Cert.ReferenceIdeal Cert.ReferenceIdeal.Gen Cert.ReferenceIdeal.Value

variable (V0 : Valuation τ sig (Elt Ideal))

/-- The scores of the first layer, of the arguments. -/
def rS0 : FVec Ideal S4096x64x64 .f32 := rScore (rProj (V0 (Proc.devRef .tc main_arg0)) (V0 (Proc.devRef .tc main_arg3)) (V0 (Proc.devRef .tc main_arg4))) (V0 (Proc.devRef .tc main_arg5)) (V0 (Proc.devRef .tc main_arg6)) (V0 (Proc.devRef .tc main_arg7))

/-- The features after the first layer, of the arguments. -/
def rH1 : FVec Ideal S4096x64x32 .f32 := rLayer (rProj (V0 (Proc.devRef .tc main_arg0)) (V0 (Proc.devRef .tc main_arg3)) (V0 (Proc.devRef .tc main_arg4))) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12))

/-- The scores of the second layer, of the arguments. -/
def rS1 : FVec Ideal S4096x64x64 .f32 := rScore (rH1 V0) (V0 (Proc.devRef .tc main_arg13)) (V0 (Proc.devRef .tc main_arg14)) (V0 (Proc.devRef .tc main_arg15))

/-- The features after the second layer, of the arguments. -/
def rH2 : FVec Ideal S4096x64x32 .f32 := rLayer (rH1 V0) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20))

/-- The features after the feed-forward block, of the arguments. -/
def rH3 : FVec Ideal S4096x64x32 .f32 := rFfn (rH2 V0) (V0 (Proc.devRef .tc main_arg21)) (V0 (Proc.devRef .tc main_arg22)) (V0 (Proc.devRef .tc main_arg23)) (V0 (Proc.devRef .tc main_arg24))

/-- The first layer's features are the program's. -/
theorem v71_eq : res_main_v71 V0 = rH1 V0 := rfl

/-- The second layer's features are the program's. -/
theorem v137_eq : res_main_v137 V0 = rH2 V0 := rfl

/-- The decoder's first product is the program's. -/
theorem v186_eq : res_main_v186 V0 = rMix (rNorm (rH3 V0) (V0 (Proc.devRef .tc main_arg25)) (V0 (Proc.devRef .tc main_arg26))) (V0 (Proc.devRef .tc main_arg27)) (V0 (Proc.devRef .tc main_arg28)) := rfl

/-- The weights, read off the arguments. -/
def wR : Cert.Graph.Weights :=
  Cert.Graph.weights (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26))

/-- Graph `n`: channel `n % 64` of batch row `n / 64`. -/
def xR (n : Fin 4096) : Fin 64 → Fin 64 → EReal :=
  Cert.Graph.graph (V0 (Proc.devRef .tc main_arg0)) ⟨n.val / 64, by omega⟩ ⟨n.val % 64, by omega⟩

/-- The scores of the first layer, at an entry. -/
theorem rS0_at (n : Fin 4096) (i j : Fin 64) : rS0 V0 (ix3 n i j) = Cert.Graph.s0 (wR V0) (xR V0 n) i j := by
  unfold rS0
  rw [rScore_at]
  simp only [rProj_at]
  rfl

/-- The features after the first layer, at an entry. -/
theorem rH1_at (h : ∀ n i, Cert.Graph.Distinct fun j => rS0 V0 (ix3 n i j)) (n : Fin 4096) (i : Fin 64) (c : Fin 32) :
    rH1 V0 (ix3 n i c) = Cert.Graph.h1 (wR V0) (xR V0 n) i c := by
  unfold rH1
  rw [rLayer_at _ _ _ _ _ _ _ _ _ n (h n)]
  simp only [rProj_at]
  rfl

/-- The features after the second layer, at an entry. -/
theorem rH2_at (h : ∀ n i, Cert.Graph.Distinct fun j => rS0 V0 (ix3 n i j)) (h' : ∀ n i, Cert.Graph.Distinct fun j => rS1 V0 (ix3 n i j))
    (n : Fin 4096) (i : Fin 64) (c : Fin 32) :
    rH2 V0 (ix3 n i c) = Cert.Graph.h2 (wR V0) (xR V0 n) i c := by
  unfold rH2
  rw [rLayer_at _ _ _ _ _ _ _ _ _ n (h' n)]
  simp only [rH1_at V0 h]
  rfl

/-- The output of the last norm, at an entry. -/
theorem rH3_at (h : ∀ n i, Cert.Graph.Distinct fun j => rS0 V0 (ix3 n i j)) (h' : ∀ n i, Cert.Graph.Distinct fun j => rS1 V0 (ix3 n i j))
    (n : Fin 4096) (i : Fin 64) (c : Fin 32) :
    rNorm (rH3 V0) (V0 (Proc.devRef .tc main_arg25)) (V0 (Proc.devRef .tc main_arg26)) (ix3 n i c) = Cert.Graph.norm (Cert.Graph.h3 (wR V0) (xR V0 n) i) (wR V0).lg (wR V0).lb c := by
  rw [rNorm_at]
  unfold rH3
  simp only [rFfn_at, rH2_at V0 h h']
  rfl

/-- The reference's result, as its run states it. -/
def rAns : FVec Ideal S64 .f32 := rOut (res_main_v186 V0) (V0 (Proc.devRef .tc main_arg29)) (V0 (Proc.devRef .tc main_arg30))

/-- The reference's result is the network's answer. -/
theorem rAns_eq (h : ∀ n i, Cert.Graph.Distinct fun j => rS0 V0 (ix3 n i j)) (h' : ∀ n i, Cert.Graph.Distinct fun j => rS1 V0 (ix3 n i j)) :
    rAns V0 = fun j => Cert.Graph.answer (wR V0) (V0 (Proc.devRef .tc main_arg0)) (V0 (Proc.devRef .tc main_arg27)) (V0 (Proc.devRef .tc main_arg28)) (V0 (Proc.devRef .tc main_arg29)) (V0 (Proc.devRef .tc main_arg30)) (j 0) := by
  funext j
  obtain ⟨s, rfl⟩ : ∃ s : Fin 64, j = ix1 s := ⟨j 0, eq_ix1 j⟩
  have hx : ∀ d : Fin 2048, xR V0 ⟨s.val * 64 + d.val / 32, by omega⟩ = Cert.Graph.graph (V0 (Proc.devRef .tc main_arg0)) s ⟨d.val / 32, by omega⟩ := by
    intro d
    have e1 : (s.val * 64 + d.val / 32) / 64 = s.val := by omega
    have e2 : (s.val * 64 + d.val / 32) % 64 = d.val / 32 := by omega
    unfold xR
    simp only [e1, e2]
  have hm : ∀ k : Fin 32, (res_main_v186 V0 : FVec Ideal S64x32 .f32) (ix2 s k) =
      (∑ d : Fin 2048, Cert.Graph.net (wR V0) (Cert.Graph.graph (V0 (Proc.devRef .tc main_arg0)) s ⟨d.val / 32, by omega⟩) ⟨d.val % 32, by omega⟩ *
        (V0 (Proc.devRef .tc main_arg27) : FVec Ideal S2048x32 .f32) (ix2 d k)) + (V0 (Proc.devRef .tc main_arg28) : FVec Ideal S32 .f32) (ix1 k) := by
    intro k
    rw [v186_eq]
    refine (rMix_at _ _ _ s k).trans ?_
    refine congrArg (fun u : EReal => u + (V0 (Proc.devRef .tc main_arg28) : FVec Ideal S32 .f32) (ix1 k)) (Finset.sum_congr rfl fun d _ => ?_)
    refine congrArg (fun u : EReal => u * (V0 (Proc.devRef .tc main_arg27) : FVec Ideal S2048x32 .f32) (ix2 d k)) ?_
    rw [← hx d]
    unfold Cert.Graph.net
    refine congrArg (fun z => Cert.Graph.head z _) ?_
    funext i c
    exact rH3_at V0 h h' _ i c
  refine (rOut_at _ _ _ s).trans ?_
  simp only [hm]
  rfl

end Cert.ReferenceIdeal.Graphs

end

end
-- ==== Proof.Pre.lean ====
/-
  What the precondition says of the two arrays of scores.
-/
module

public import proofs.«01_k».proof.Proof.Gen.Pre_distinct_top
public import proofs.«01_k».proof.Proof.RVal

@[expose] public section

set_option maxRecDepth 16384

noncomputable section

namespace Cert.ReferenceIdeal.Graphs

open Idealize.ShloMosaic Idealize.ShloMosaic.TcCoe Idealize.SL.Sem Cert.ReferenceIdeal Cert.ReferenceIdeal.Gen

section

variable [Cert.Pre_distinct_top.Facts]

/-- Whether each of the first seven of a row's eight greatest entries is above the next. -/
def rLead (x : FVec Ideal S4096x64x64 .f32) : IVec Cert.Pre_distinct_top.S4096x64x7 1 :=
  (cmpf .ogt (extractStridedSlice Cert.Pre_distinct_top.S4096x64x7 ![0, 0, 0] (Host.topK Cert.Pre_distinct_top.S4096x64x8 2 (FloatOps.cmpfTotal .gt) x Cert.Pre_distinct_top.Facts.sliceFits_S4096x64x64_S4096x64x8).1 Cert.Pre_distinct_top.Facts.slices_S4096x64x8_S4096x64x7_0_0_0) (extractStridedSlice Cert.Pre_distinct_top.S4096x64x7 ![0, 0, 1] (Host.topK Cert.Pre_distinct_top.S4096x64x8 2 (FloatOps.cmpfTotal .gt) x Cert.Pre_distinct_top.Facts.sliceFits_S4096x64x64_S4096x64x8).1 Cert.Pre_distinct_top.Facts.slices_S4096x64x8_S4096x64x7_0_0_1))

/-- A row whose first seven leading entries are above the next has distinct leading entries. -/
theorem distinct_of_lead (x : FVec Ideal S4096x64x64 .f32) (h : rLead x = fun _ => 1#1) (n : Fin 4096) (i : Fin 64) :
    Cert.Graph.Distinct fun j => x (ix3 n i j) := by
  intro k
  have hk := congrFun h (ix3 n i k)
  have e : rLead x (ix3 n i k) = BitVec.ofBool (decide ((Cert.Graph.sorted (fun j => x (ix3 n i j)) ⟨k.val + 1, by omega⟩) <
      (Cert.Graph.sorted (fun j => x (ix3 n i j)) ⟨k.val, by omega⟩))) := by
    unfold rLead
    pointwise [topK_at]
    simp only [Nat.add_comm 1 k.val]
  rw [e] at hk
  by_contra hn
  rw [decide_eq_false hn] at hk
  exact absurd hk (by decide)

end

variable (V0 : Valuation τ sig (Elt Ideal))

/-- The precondition's arrays are those of the program's two arrays of scores. -/
theorem pre_eq : Cert.Pre_distinct_top.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) (V0 (Proc.devRef .tc main_arg30)) = (rLead (rS0 V0), rLead (rS1 V0)) := rfl

end Cert.ReferenceIdeal.Graphs

end

end
-- ==== Proof.Agree.lean ====
/-
  The kernel's result is the reference's.
-/
module

public import proofs.«01_k».proof.Proof.KVal
public import proofs.«01_k».proof.Proof.Pre

@[expose] public section

set_option maxRecDepth 16384

noncomputable section

namespace Cert.ReferenceIdeal.Graphs

open Idealize.ShloMosaic Idealize.ShloMosaic.TcCoe Idealize.SL.Sem Cert.ReferenceIdeal Cert.ReferenceIdeal.Gen

/-- The reference's result in terms of its argument arrays, when the leading scores of every row are distinct. -/
theorem rAns_of (V0 : Valuation τ sig (Elt Ideal))
    (a0 : FVec Ideal S64x64x64x64 .f32)
    (a1 : FVec Ideal S64x64 .f32)
    (a2 : FVec Ideal S64 .f32)
    (a3 : FVec Ideal S64x32 .f32)
    (a4 : FVec Ideal S32 .f32)
    (a5 : FVec Ideal S64x32 .f32)
    (a6 : FVec Ideal S32x32 .f32)
    (a7 : FVec Ideal S32x32 .f32)
    (a8 : FVec Ideal S32x32 .f32)
    (a9 : FVec Ideal S32x32 .f32)
    (a10 : FVec Ideal S32 .f32)
    (a11 : FVec Ideal S32 .f32)
    (a12 : FVec Ideal S32 .f32)
    (a13 : FVec Ideal S64x32 .f32)
    (a14 : FVec Ideal S32x32 .f32)
    (a15 : FVec Ideal S32x32 .f32)
    (a16 : FVec Ideal S32x32 .f32)
    (a17 : FVec Ideal S32x32 .f32)
    (a18 : FVec Ideal S32 .f32)
    (a19 : FVec Ideal S32 .f32)
    (a20 : FVec Ideal S32 .f32)
    (a21 : FVec Ideal S32x128 .f32)
    (a22 : FVec Ideal S128 .f32)
    (a23 : FVec Ideal S128x32 .f32)
    (a24 : FVec Ideal S32 .f32)
    (a25 : FVec Ideal S32 .f32)
    (a26 : FVec Ideal S32 .f32)
    (a27 : FVec Ideal S2048x32 .f32)
    (a28 : FVec Ideal S32 .f32)
    (a29 : FVec Ideal S32x1 .f32)
    (a30 : FVec Ideal S1 .f32)
    (h0 : V0 (Proc.devRef .tc main_arg0) = a0)
    (h1 : V0 (Proc.devRef .tc main_arg1) = a1)
    (h2 : V0 (Proc.devRef .tc main_arg2) = a2)
    (h3 : V0 (Proc.devRef .tc main_arg3) = a3)
    (h4 : V0 (Proc.devRef .tc main_arg4) = a4)
    (h5 : V0 (Proc.devRef .tc main_arg5) = a5)
    (h6 : V0 (Proc.devRef .tc main_arg6) = a6)
    (h7 : V0 (Proc.devRef .tc main_arg7) = a7)
    (h8 : V0 (Proc.devRef .tc main_arg8) = a8)
    (h9 : V0 (Proc.devRef .tc main_arg9) = a9)
    (h10 : V0 (Proc.devRef .tc main_arg10) = a10)
    (h11 : V0 (Proc.devRef .tc main_arg11) = a11)
    (h12 : V0 (Proc.devRef .tc main_arg12) = a12)
    (h13 : V0 (Proc.devRef .tc main_arg13) = a13)
    (h14 : V0 (Proc.devRef .tc main_arg14) = a14)
    (h15 : V0 (Proc.devRef .tc main_arg15) = a15)
    (h16 : V0 (Proc.devRef .tc main_arg16) = a16)
    (h17 : V0 (Proc.devRef .tc main_arg17) = a17)
    (h18 : V0 (Proc.devRef .tc main_arg18) = a18)
    (h19 : V0 (Proc.devRef .tc main_arg19) = a19)
    (h20 : V0 (Proc.devRef .tc main_arg20) = a20)
    (h21 : V0 (Proc.devRef .tc main_arg21) = a21)
    (h22 : V0 (Proc.devRef .tc main_arg22) = a22)
    (h23 : V0 (Proc.devRef .tc main_arg23) = a23)
    (h24 : V0 (Proc.devRef .tc main_arg24) = a24)
    (h25 : V0 (Proc.devRef .tc main_arg25) = a25)
    (h26 : V0 (Proc.devRef .tc main_arg26) = a26)
    (h27 : V0 (Proc.devRef .tc main_arg27) = a27)
    (h28 : V0 (Proc.devRef .tc main_arg28) = a28)
    (h29 : V0 (Proc.devRef .tc main_arg29) = a29)
    (h30 : V0 (Proc.devRef .tc main_arg30) = a30)
    (hp : (Cert.Pre_distinct_top.fn (F := Ideal) a0 a1 a2 a3 a4 a5 a6 a7 a8 a9 a10 a11 a12 a13 a14 a15 a16 a17 a18 a19 a20 a21 a22 a23 a24 a25 a26 a27 a28 a29 a30).1 = (fun _ => 1#1)
      ∧ (Cert.Pre_distinct_top.fn (F := Ideal) a0 a1 a2 a3 a4 a5 a6 a7 a8 a9 a10 a11 a12 a13 a14 a15 a16 a17 a18 a19 a20 a21 a22 a23 a24 a25 a26 a27 a28 a29 a30).2 = (fun _ => 1#1)) :
    rAns V0 = fun j => Cert.Graph.answer (Cert.Graph.weights a3 a4 a5 a6 a7 a8 a9 a10 a11 a12 a13 a14 a15 a16 a17 a18 a19 a20 a21 a22 a23 a24 a25 a26) a0 a27 a28 a29 a30 (j 0) := by
  subst h0 h1 h2 h3 h4 h5 h6 h7 h8 h9 h10 h11 h12 h13 h14 h15 h16 h17 h18 h19 h20 h21 h22 h23 h24 h25 h26 h27 h28 h29 h30
  rw [pre_eq V0] at hp
  exact rAns_eq V0 (distinct_of_lead _ hp.1) (distinct_of_lead _ hp.2)

variable (V0 : Valuation τ sig (Elt Ideal)) (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The two programs' results are equal when their arguments are and the leading scores of every row are distinct. -/
theorem agree
    (h0 : V0 (Proc.devRef .tc main_arg0) = m ((c.tc : Thread Cert.KernelIdeal.nD Cert.KernelIdeal.τ).loc Cert.KernelIdeal.main_arg0))
    (h1 : V0 (Proc.devRef .tc main_arg1) = m ((c.tc : Thread Cert.KernelIdeal.nD Cert.KernelIdeal.τ).loc Cert.KernelIdeal.main_arg1))
    (h2 : V0 (Proc.devRef .tc main_arg2) = m ((c.tc : Thread Cert.KernelIdeal.nD Cert.KernelIdeal.τ).loc Cert.KernelIdeal.main_arg2))
    (h3 : V0 (Proc.devRef .tc main_arg3) = m ((c.tc : Thread Cert.KernelIdeal.nD Cert.KernelIdeal.τ).loc Cert.KernelIdeal.main_arg3))
    (h4 : V0 (Proc.devRef .tc main_arg4) = m ((c.tc : Thread Cert.KernelIdeal.nD Cert.KernelIdeal.τ).loc Cert.KernelIdeal.main_arg4))
    (h5 : V0 (Proc.devRef .tc main_arg5) = m ((c.tc : Thread Cert.KernelIdeal.nD Cert.KernelIdeal.τ).loc Cert.KernelIdeal.main_arg5))
    (h6 : V0 (Proc.devRef .tc main_arg6) = m ((c.tc : Thread Cert.KernelIdeal.nD Cert.KernelIdeal.τ).loc Cert.KernelIdeal.main_arg6))
    (h7 : V0 (Proc.devRef .tc main_arg7) = m ((c.tc : Thread Cert.KernelIdeal.nD Cert.KernelIdeal.τ).loc Cert.KernelIdeal.main_arg7))
    (h8 : V0 (Proc.devRef .tc main_arg8) = m ((c.tc : Thread Cert.KernelIdeal.nD Cert.KernelIdeal.τ).loc Cert.KernelIdeal.main_arg8))
    (h9 : V0 (Proc.devRef .tc main_arg9) = m ((c.tc : Thread Cert.KernelIdeal.nD Cert.KernelIdeal.τ).loc Cert.KernelIdeal.main_arg9))
    (h10 : V0 (Proc.devRef .tc main_arg10) = m ((c.tc : Thread Cert.KernelIdeal.nD Cert.KernelIdeal.τ).loc Cert.KernelIdeal.main_arg10))
    (h11 : V0 (Proc.devRef .tc main_arg11) = m ((c.tc : Thread Cert.KernelIdeal.nD Cert.KernelIdeal.τ).loc Cert.KernelIdeal.main_arg11))
    (h12 : V0 (Proc.devRef .tc main_arg12) = m ((c.tc : Thread Cert.KernelIdeal.nD Cert.KernelIdeal.τ).loc Cert.KernelIdeal.main_arg12))
    (h13 : V0 (Proc.devRef .tc main_arg13) = m ((c.tc : Thread Cert.KernelIdeal.nD Cert.KernelIdeal.τ).loc Cert.KernelIdeal.main_arg13))
    (h14 : V0 (Proc.devRef .tc main_arg14) = m ((c.tc : Thread Cert.KernelIdeal.nD Cert.KernelIdeal.τ).loc Cert.KernelIdeal.main_arg14))
    (h15 : V0 (Proc.devRef .tc main_arg15) = m ((c.tc : Thread Cert.KernelIdeal.nD Cert.KernelIdeal.τ).loc Cert.KernelIdeal.main_arg15))
    (h16 : V0 (Proc.devRef .tc main_arg16) = m ((c.tc : Thread Cert.KernelIdeal.nD Cert.KernelIdeal.τ).loc Cert.KernelIdeal.main_arg16))
    (h17 : V0 (Proc.devRef .tc main_arg17) = m ((c.tc : Thread Cert.KernelIdeal.nD Cert.KernelIdeal.τ).loc Cert.KernelIdeal.main_arg17))
    (h18 : V0 (Proc.devRef .tc main_arg18) = m ((c.tc : Thread Cert.KernelIdeal.nD Cert.KernelIdeal.τ).loc Cert.KernelIdeal.main_arg18))
    (h19 : V0 (Proc.devRef .tc main_arg19) = m ((c.tc : Thread Cert.KernelIdeal.nD Cert.KernelIdeal.τ).loc Cert.KernelIdeal.main_arg19))
    (h20 : V0 (Proc.devRef .tc main_arg20) = m ((c.tc : Thread Cert.KernelIdeal.nD Cert.KernelIdeal.τ).loc Cert.KernelIdeal.main_arg20))
    (h21 : V0 (Proc.devRef .tc main_arg21) = m ((c.tc : Thread Cert.KernelIdeal.nD Cert.KernelIdeal.τ).loc Cert.KernelIdeal.main_arg21))
    (h22 : V0 (Proc.devRef .tc main_arg22) = m ((c.tc : Thread Cert.KernelIdeal.nD Cert.KernelIdeal.τ).loc Cert.KernelIdeal.main_arg22))
    (h23 : V0 (Proc.devRef .tc main_arg23) = m ((c.tc : Thread Cert.KernelIdeal.nD Cert.KernelIdeal.τ).loc Cert.KernelIdeal.main_arg23))
    (h24 : V0 (Proc.devRef .tc main_arg24) = m ((c.tc : Thread Cert.KernelIdeal.nD Cert.KernelIdeal.τ).loc Cert.KernelIdeal.main_arg24))
    (h25 : V0 (Proc.devRef .tc main_arg25) = m ((c.tc : Thread Cert.KernelIdeal.nD Cert.KernelIdeal.τ).loc Cert.KernelIdeal.main_arg25))
    (h26 : V0 (Proc.devRef .tc main_arg26) = m ((c.tc : Thread Cert.KernelIdeal.nD Cert.KernelIdeal.τ).loc Cert.KernelIdeal.main_arg26))
    (h27 : V0 (Proc.devRef .tc main_arg27) = m ((c.tc : Thread Cert.KernelIdeal.nD Cert.KernelIdeal.τ).loc Cert.KernelIdeal.main_arg27))
    (h28 : V0 (Proc.devRef .tc main_arg28) = m ((c.tc : Thread Cert.KernelIdeal.nD Cert.KernelIdeal.τ).loc Cert.KernelIdeal.main_arg28))
    (h29 : V0 (Proc.devRef .tc main_arg29) = m ((c.tc : Thread Cert.KernelIdeal.nD Cert.KernelIdeal.τ).loc Cert.KernelIdeal.main_arg29))
    (h30 : V0 (Proc.devRef .tc main_arg30) = m ((c.tc : Thread Cert.KernelIdeal.nD Cert.KernelIdeal.τ).loc Cert.KernelIdeal.main_arg30))
    (hp : (Cert.Pre_distinct_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).1 = (fun _ => 1#1)
      ∧ (Cert.Pre_distinct_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2 = (fun _ => 1#1)) :
    rAns V0 = (Cert.KernelIdeal.Gen.W5 m ρ c (Proc.devRef .tc Cert.KernelIdeal.main_v24) : FVec Ideal S64 .f32) :=
  (rAns_of V0 _ _ _ _ _ _ _ _ _ _ _ _ _ _ _ _ _ _ _ _ _ _ _ _ _ _ _ _ _ _ _ h0 h1 h2 h3 h4 h5 h6 h7 h8 h9 h10 h11 h12 h13 h14 h15 h16 h17 h18 h19 h20 h21 h22 h23 h24 h25 h26 h27 h28 h29 h30 hp).trans (Cert.KernelIdeal.Graphs.value m ρ c).symm

end Cert.ReferenceIdeal.Graphs

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_distinct_top
public import proofs.«01_k».proof.Proof.Gen.ReferenceIdeal.Run
public import proofs.«01_k».proof.Proof.KRun
public import proofs.«01_k».proof.Proof.Agree
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments as they were, and every counter at zero since it has none. -/
theorem rest : letI := Cert.ReferenceIdeal.Gen.facts; Cert.quiescent_ReferenceIdeal := by
  intro m ρ _
  exact (θ_run _ _ _).mono (fun r h => ⟨fun c => (h c).2, sem_eq_zero_of_no_sems rfl r.2⟩) (Cert.ReferenceIdeal.Value.run m ρ)

/-- On the extended reals the two programs, given equal arguments whose rows of scores have distinct leading entries,
    end with equal results and leave their arguments as they were. -/
theorem algebraic : letI := Cert.KernelIdeal.Gen.facts; letI := Cert.ReferenceIdeal.Gen.facts; letI := Cert.Pre_distinct_top.Gen.facts
    Cert.algebraic_KernelIdeal_ReferenceIdeal_pre_distinct_top := by
  pair_intro
  · run_from Cert.KernelIdeal.Graphs.run m g & Cert.KernelIdeal.Gen.frame m g
  · refine (θ_run _ _ _).mono (fun r h c => ⟨(h c).1.trans ?_, (h c).2⟩) (Cert.ReferenceIdeal.Value.run m' g')
    obtain ⟨h0, h1, h2, h3, h4, h5, h6, h7, h8, h9, h10, h11, h12, h13, h14, h15, h16, h17, h18, h19, h20, h21, h22, h23, h24, h25, h26, h27, h28, h29, h30⟩ := hagree c
    exact Cert.ReferenceIdeal.Graphs.agree (StableHlo.launchContents m' c) m g c h0 h1 h2 h3 h4 h5 h6 h7 h8 h9 h10 h11 h12 h13 h14 h15 h16 h17 h18 h19 h20 h21 h22 h23 h24 h25 h26 h27 h28 h29 h30 (hpre c)

/-- The certificate: the three programs leave their arguments as they were and every counter at zero, the two named
    constants are the only replacement, and the results are equal. -/
theorem claim : Cert.Claim :=
  ⟨Cert.Kernel.Gen.facts, Cert.KernelIdeal.Gen.facts, Cert.ReferenceIdeal.Gen.facts, Cert.Pre_distinct_top.Gen.facts,
   fun m ρ _ => Cert.Kernel.Gen.frame m ρ,
   fun m ρ _ => Cert.KernelIdeal.Gen.frame m ρ,
   fun m ρ _ => Cert.KernelIdeal.Gen.frame m ρ,
   rest,
   fun m ρ _ => rest m ρ trivial,
   ⟨IdealRules.named_const.statement Cert.KernelIdeal.κ "scale" .f32 0x3E3504F3#32 _ rfl,
    IdealRules.named_const.statement Cert.KernelIdeal.κ "mask" .f32 0xF149F2CA#32 _ rfl⟩,
   algebraic⟩

end Cert.Proof

end
